-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩
abbrev S2048x8x128 : Shape := ⟨3, ![2048, 8, 128]⟩
abbrev S8x2048x128 : Shape := ⟨3, ![8, 2048, 128]⟩
abbrev S256x1024 : Shape := ⟨2, ![256, 1024]⟩
abbrev S256x128 : Shape := ⟨2, ![256, 128]⟩
abbrev S1x2048x128 : Shape := ⟨3, ![1, 2048, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S3x512x1024 : Shape := ⟨3, ![3, 512, 1024]⟩
abbrev S3 : Shape := ⟨1, ![3]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 37
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x8x128, .f32⟩
  | .hbm, ⟨3, _⟩ => ⟨S1x2048x8x128, .f32⟩
  | .hbm, ⟨4, _⟩ => ⟨S4096x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .f32⟩
  | .hbm, ⟨30, _⟩ => ⟨S2048x8x128, .f32⟩
  | .hbm, ⟨31, _⟩ => ⟨S8x2048x128, .f32⟩
  | .hbm, ⟨32, _⟩ => ⟨S2048x8x128, .f32⟩
  | .hbm, ⟨33, _⟩ => ⟨S8x2048x128, .f32⟩
  | .hbm, ⟨34, _⟩ => ⟨S2048x1024, .f32⟩
  | .hbm, ⟨35, _⟩ => ⟨S2048x1024, .f32⟩
  | .hbm, ⟨36, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S8x2048x128, .f32⟩
  | .local _ .vmem, ⟨3, _⟩ => ⟨S8x2048x128, .f32⟩
  | .local _ .vmem, ⟨4, _⟩ => ⟨S1024x1024, .f32⟩
  | .local _ .vmem, ⟨5, _⟩ => ⟨S2048x1024, .f32⟩
  | .local _ .vmem, ⟨6, _⟩ => ⟨S256x1024, .f32⟩
  | .local _ .vmem, ⟨7, _⟩ => ⟨S2048x1024, .f32⟩
  | .local _ .vmem, ⟨8, _⟩ => ⟨S2048x1024, .f32⟩
  | .local _ .vmem, ⟨9, _⟩ => ⟨S3x512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev barrier0 : Sem sig := 0

abbrev nD : Nat := 4
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k1_off1 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.subi v2 c0_i32_13
  let c4_i32_14 : BitVec 32 := 4#32
  let v17 : BitVec 32 := Scalar.addi v16 c4_i32_14
  let c4_i32_15 : BitVec 32 := 4#32
  let v18 : BitVec 32 := Scalar.remsi v17 c4_i32_15
  let c512_i32 : BitVec 32 := 512#32
  let v23 : BitVec 32 := Scalar.muli v18 c512_i32
  let c0_i32_27 : BitVec 32 := 0#32
  ![v23.toNat, 0]
def k1_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v24 : BitVec 32 := Scalar.muli v7 c1_i32_23
  let v25 : BitVec 32 := Scalar.addi c0_i32_24 v24
  v25.toNat
def k1_off2 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c1_i32_17 : BitVec 32 := 1#32
  let v20 : BitVec 32 := Scalar.subi v19 c1_i32_17
  let c4_i32_18 : BitVec 32 := 4#32
  let v21 : BitVec 32 := Scalar.addi v20 c4_i32_18
  let c4_i32_19 : BitVec 32 := 4#32
  let v22 : BitVec 32 := Scalar.remsi v21 c4_i32_19
  let c512_i32_43 : BitVec 32 := 512#32
  let v45 : BitVec 32 := Scalar.muli v22 c512_i32_43
  let v46 : Index := Scalar.indexCast v45
  let c0_44 : Index := 0#32
  ![v46.toNat, 0]
def k1_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_61 : BitVec 32 := 1#32
  let v63 : BitVec 32 := Scalar.muli v7 c1_i32_61
  let v64 : BitVec 32 := Scalar.addi c0_i32_62 v63
  v64.toNat
def k1_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v102 : BitVec 32 := Scalar.muli v7 c1_i32_98
  let v103 : BitVec 32 := Scalar.addi c0_i32_99 v102
  v103.toNat
def k1_off3 (d0 : Dev nD) (c0_i32_125 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v133 : BitVec 32 := Scalar.addi v2 c1_i32_124
  let v134 : BitVec 32 := Scalar.subi v133 c0_i32_125
  let c4_i32_126 : BitVec 32 := 4#32
  let v135 : BitVec 32 := Scalar.addi v134 c4_i32_126
  let c4_i32_127 : BitVec 32 := 4#32
  let v136 : BitVec 32 := Scalar.remsi v135 c4_i32_127
  let c512_i32_129 : BitVec 32 := 512#32
  let v138 : BitVec 32 := Scalar.muli v136 c512_i32_129
  let c0_i32_134 : BitVec 32 := 0#32
  ![v138.toNat, 0]
def k1_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_132 : BitVec 32 := 1#32
  let v139 : BitVec 32 := Scalar.muli v7 c1_i32_132
  let v140 : BitVec 32 := Scalar.addi c0_i32_133 v139
  v140.toNat
def k1_dev7 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_155 : BitVec 32 := 1#32
  let v163 : BitVec 32 := Scalar.muli v7 c1_i32_155
  let v164 : BitVec 32 := Scalar.addi c0_i32_156 v163
  v164.toNat
def k1_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_178 : BitVec 32 := 1#32
  let v187 : BitVec 32 := Scalar.muli v7 c1_i32_178
  let v188 : BitVec 32 := Scalar.addi c0_i32_179 v187
  v188.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S2048x2048, .i1⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S_, .i1⟩
  | .hbm, ⟨74, _⟩ => ⟨S2048x2048, .i1⟩
  | .hbm, ⟨75, _⟩ => ⟨S2048x2048, .i1⟩
  | .hbm, ⟨76, _⟩ => ⟨S2048x2048, .i1⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S1x32x2048x2048, .f32⟩
  | .hbm, ⟨85, _⟩ => ⟨S_, .f32⟩
  | .hbm, ⟨86, _⟩ => ⟨S1x32x2048x2048, .f32⟩
  | .hbm, ⟨87, _⟩ => ⟨S1x32x2048x2048, .f32⟩
  | .hbm, ⟨88, _⟩ => ⟨S1x1x2048x2048, .i1⟩
  | .hbm, ⟨89, _⟩ => ⟨S_, .f32⟩
  | .hbm, ⟨90, _⟩ => ⟨S_, .f32⟩
  | .hbm, ⟨91, _⟩ => ⟨S1x32x2048x2048, .i1⟩
  | .hbm, ⟨92, _⟩ => ⟨S1x32x2048x2048, .f32⟩
  | .hbm, ⟨93, _⟩ => ⟨S1x32x2048x2048, .f32⟩
  | .hbm, ⟨94, _⟩ => ⟨S_, .f32⟩
  | .hbm, ⟨95, _⟩ => ⟨S1x32x2048, .f32⟩
  | .hbm, ⟨96, _⟩ => ⟨S1x32x2048x1, .f32⟩
  | .hbm, ⟨97, _⟩ => ⟨S1x32x2048x2048, .f32⟩
  | .hbm, ⟨98, _⟩ => ⟨S1x32x2048x2048, .f32⟩
  | .hbm, ⟨99, _⟩ => ⟨S1x32x2048x2048, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S1x32x2048, .f32⟩
  | .hbm, ⟨105, _⟩ => ⟨S1x32x2048x1, .f32⟩
  | .hbm, ⟨106, _⟩ => ⟨S_, .f32⟩
  | .hbm, ⟨107, _⟩ => ⟨S_, .f32⟩
  | .hbm, ⟨108, _⟩ => ⟨S1x32x2048x1, .i1⟩
  | .hbm, ⟨109, _⟩ => ⟨S1x32x2048x1, .f32⟩
  | .hbm, ⟨110, _⟩ => ⟨S1x32x2048x1, .f32⟩
  | .hbm, ⟨111, _⟩ => ⟨S1x32x2048x2048, .f32⟩
  | .hbm, ⟨112, _⟩ => ⟨S1x32x2048x2048, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S1x32x2048x2048, .i1⟩
  | .hbm, ⟨117, _⟩ => ⟨S1x32x2048x2048, .f32⟩
  | .hbm, ⟨118, _⟩ => ⟨S1x32x2048x2048, .f32⟩
  | .hbm, ⟨119, _⟩ => ⟨S1x32x128x2048, .f32⟩
  | .hbm, ⟨120, _⟩ => ⟨S1x2048x32x128, .f32⟩
  | .hbm, ⟨121, _⟩ => ⟨S1x2048x4096, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Talk.lean ====
/- The ring all-reduce as a protocol: who hands what to whom at which semaphore.

Every device adds up, chunk by chunk, the partial results of all four. A chunk is 512 of the 2048
rows. Device `c` talks to its right neighbour `sh c 1` in six steps. In steps 0, 1 and 2 it sends a
running sum of one chunk into slot `k` of the neighbour's receive buffer; in steps 3, 4 and 5 it
sends a finished chunk into its place in the neighbour's result.

A finished chunk overwrites the neighbour's result, so the sender must know that the neighbour has
stopped reading that chunk. This knowledge travels round the ring: the chunk a device has sent in
steps 0, 1 and 2 is handed on with the three transfers that follow it and so reaches, three steps
later, the device that will overwrite it. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipelines' round counters and the protocol's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `n` places to the right of `c`; also the chunk `n` places after chunk `c`. -/
def sh (c : Dev nD) (n : ℕ) : Dev nD := ⟨(c.val + n) % 4, Nat.mod_lt _ (by decide)⟩

theorem sh_sh (c : Dev nD) (a b : ℕ) : sh (sh c a) b = sh c (a + b) := by
  apply Fin.ext; simp only [sh]; omega
theorem sh_four (c : Dev nD) (a : ℕ) : sh c (a + 4) = sh c a := by
  apply Fin.ext; simp only [sh]; omega
theorem sh_zero (c : Dev nD) : sh c 0 = c := by
  apply Fin.ext; have := c.isLt; simp only [nD] at this; simp only [sh]; omega
theorem sh_back (c : Dev nD) : sh c 4 = c := (sh_four c 0).trans (sh_zero c)

/-- One step round the ring, as a permutation of the devices. -/
def ring : Dev nD ≃ Dev nD :=
  ⟨fun c => sh c 1, fun c => sh c 3, fun c => (sh_sh c 1 3).trans (sh_back c), fun c => (sh_sh c 3 1).trans (sh_back c)⟩

theorem dev1_eq (c : Dev nD) : (⟨k1_dev1 c, k1_dev1_lt c⟩ : Dev nD) = sh c 3 := Fin.ext (k1_dev1_eq c)
theorem dev2_eq (c : Dev nD) : (⟨k1_dev2 c, k1_dev2_lt c⟩ : Dev nD) = sh c 1 := Fin.ext (k1_dev2_eq c)
theorem dev3_eq (c : Dev nD) : (⟨k1_dev3 c, k1_dev3_lt c⟩ : Dev nD) = sh c 1 := Fin.ext (k1_dev3_eq c)
theorem dev4_eq (c : Dev nD) : (⟨k1_dev4 c, k1_dev4_lt c⟩ : Dev nD) = sh c 1 := Fin.ext (k1_dev4_eq c)
theorem dev5_eq (c : Dev nD) : (⟨k1_dev5 c, k1_dev5_lt c⟩ : Dev nD) = sh c 1 := Fin.ext (k1_dev5_eq c)
theorem dev6_eq (c : Dev nD) : (⟨k1_dev6 c, k1_dev6_lt c⟩ : Dev nD) = sh c 1 := Fin.ext (k1_dev6_eq c)
theorem dev7_eq (c : Dev nD) : (⟨k1_dev7 c, k1_dev7_lt c⟩ : Dev nD) = sh c 1 := Fin.ext (k1_dev7_eq c)
theorem dev8_eq (c : Dev nD) : (⟨k1_dev8 c, k1_dev8_lt c⟩ : Dev nD) = sh c 1 := Fin.ext (k1_dev8_eq c)

/-! ## Buffers, semaphores, cells -/

abbrev pM : Memref sig .tc .vmem S2048x1024 .f32 := Memref.whole cc1_stg0_0
abbrev oM : Memref sig .tc .vmem S2048x1024 .f32 := Memref.whole cc1_stg1_0
abbrev rM : Memref sig .tc .vmem S3x512x1024 .f32 := Memref.whole cc1_scratch0

/-- The semaphore of the sender's side of step `k`, and of the receiver's side. -/
def sS : ℕ → DmaSem sig
  | 0 => 8 | 1 => 9 | 2 => 10 | 3 => 14 | 4 => 15 | _ => 16
def rS : ℕ → DmaSem sig
  | 0 => 11 | 1 => 12 | 2 => 13 | 3 => 17 | 4 => 18 | _ => 19

abbrev barCell (c : Dev nD) : GSem nD τ sig := ((c : Thread nD τ), .reg barrier0)
abbrev sCell (k : ℕ) (c : Dev nD) : GSem nD τ sig := ((c : Thread nD τ), .dma (sS k))
abbrev rCell (k : ℕ) (c : Dev nD) : GSem nD τ sig := ((c : Thread nD τ), .dma (rS k))

theorem inb_chunk (j : Dev nD) : ∀ a, (![512 * j.val, 0] : Fin 2 → ℕ) a + S512x1024.size a ≤ S2048x1024.size a := by
  revert j; decide
theorem inb_slot (s : Fin 3) : ∀ a, (![s.val, 0, 0] : Fin 3 → ℕ) a + S1x512x1024.size a ≤ S3x512x1024.size a := by
  revert s; decide

/-- Chunk `j` of the result buffer, and slot `s` of the receive buffer, as the program addresses them. -/
abbrev chunkM (j : Dev nD) : Memref sig .tc .vmem S512x1024 .f32 :=
  oM.slice (Rect.unit (s := S2048x1024) ![512 * j.val, 0] S512x1024.size (inb_chunk j)) (fun _ => rfl)
abbrev slotM (s : Fin 3) : Memref sig .tc .vmem S512x1024 .f32 :=
  (rM.slice (Rect.unit (s := S3x512x1024) ![s.val, 0, 0] S1x512x1024.size (inb_slot s)) (fun _ => rfl)).squeeze S512x1024 squeezes_S1x512x1024_S512x1024

/-- The rows of chunk `j`, and of slot `s`. -/
def chunkSet (j : Dev nD) : Finset S2048x1024.Idx := Finset.univ.filter fun i => (i (0 : Fin 2)).val / 512 = j.val
def slotSet (s : Fin 3) : Finset S3x512x1024.Idx := Finset.univ.filter fun i => (i (0 : Fin 3)).val = s.val

theorem rect_chunk (j : Dev nD) : (Rect.unit (s := S2048x1024) ![512 * j.val, 0] S512x1024.size (inb_chunk j)).set = chunkSet j := by
  ext i
  have h1 : (i (1 : Fin 2)).val < 1024 := (i (1 : Fin 2)).isLt
  rw [Rect.mem_set_unit]
  simp only [chunkSet, Finset.mem_filter, Finset.mem_univ, true_and, Fin.forall_fin_two]
  show ((512 * j.val ≤ (i (0 : Fin 2)).val ∧ (i (0 : Fin 2)).val < 512 * j.val + 512) ∧ (0 ≤ (i (1 : Fin 2)).val ∧ (i (1 : Fin 2)).val < 0 + 1024)) ↔ _
  omega
theorem rect_slot (s : Fin 3) : (Rect.unit (s := S3x512x1024) ![s.val, 0, 0] S1x512x1024.size (inb_slot s)).set = slotSet s := by
  ext i
  have h1 : (i (1 : Fin 3)).val < 512 := (i (1 : Fin 3)).isLt
  have h2 : (i (2 : Fin 3)).val < 1024 := (i (2 : Fin 3)).isLt
  rw [Rect.mem_set_unit]
  simp only [slotSet, Finset.mem_filter, Finset.mem_univ, true_and]
  constructor
  · intro h
    have h0 := h (0 : Fin 3)
    change s.val ≤ (i (0 : Fin 3)).val ∧ (i (0 : Fin 3)).val < s.val + 1 at h0
    omega
  · intro h a
    fin_cases a
    · show s.val ≤ (i (0 : Fin 3)).val ∧ (i (0 : Fin 3)).val < s.val + 1
      omega
    · show 0 ≤ (i (1 : Fin 3)).val ∧ (i (1 : Fin 3)).val < 0 + 512
      omega
    · show 0 ≤ (i (2 : Fin 3)).val ∧ (i (2 : Fin 3)).val < 0 + 1024
      omega

theorem set_chunk (j : Dev nD) : (chunkM j).view.set = chunkSet j := (View.set_slice_whole _ _).trans (rect_chunk j)
theorem set_slot (s : Fin 3) : (slotM s).view.set = slotSet s :=
  (View.set_reshape _ _).trans ((View.set_slice_whole _ _).trans (rect_slot s))

/-- What one transfer credits. -/
def N : ℕ := (chunkM 0).view.dmaCredit
theorem N_pos : 0 < N := View.dmaCredit_pos _ (by decide)
theorem credit_chunk (j : Dev nD) : (chunkM j).view.dmaCredit = N := rfl
theorem credit_slot (s : Fin 3) : (slotM s).view.dmaCredit = N := rfl
theorem credit_out {off : Fin 2 → ℕ} (inb : ∀ a, off a + S512x1024.size a ≤ S2048x1024.size a)
    (hst : ∀ a, (Rect.unit (s := S2048x1024) off S512x1024.size inb).stride a = 1) :
    (oM.slice (Rect.unit (s := S2048x1024) off S512x1024.size inb) hst).view.dmaCredit = N := rfl
attribute [irreducible] N

/-! ## Contents -/

/-- A whole 2048 × 1024 array. -/
abbrev Mat (F : FTy → Type) : Type := FVec F S2048x1024 .f32

/-- The sum of `p` over device `d` and the `n` devices to its left, added in the order in which the
ring adds it. -/
def acc (p : Dev nD → Mat F) : ℕ → Dev nD → Mat F
  | 0, d => p d
  | n + 1, d => addf (p d) (acc p n (sh d 3))

/-- The chunk a row lies in. -/
def rowChunk (i : S2048x1024.Idx) : Dev nD :=
  ⟨(i (0 : Fin 2)).val / 512, by have : (i (0 : Fin 2)).val < 2048 := (i (0 : Fin 2)).isLt; show _ < 4; omega⟩

/-- The all-reduced array: chunk `j` is the sum that starts at device `j` and ends at the device
before it. -/
def total (p : Dev nD → Mat F) : Mat F := fun i => acc p 3 (sh (rowChunk i) 3) i

theorem rowChunk_of_mem {j : Dev nD} {i : S2048x1024.Idx} (h : i ∈ chunkSet j) : rowChunk i = j :=
  Fin.ext (Finset.mem_filter.mp h).2

theorem total_of_mem (p : Dev nD → Mat F) {j : Dev nD} {i : S2048x1024.Idx} (h : i ∈ chunkSet j) :
    total p i = acc p 3 (sh j 3) i := by
  unfold total; rw [rowChunk_of_mem h]

/-! ## The pieces that are handed round -/

/-- Chunk `j` of device `d`'s result buffer, holding `g`'s chunk. -/
def outP (d j : Dev nD) (g : Mat F) : sProp 𝕄 :=
  (((d : Thread nD τ).loc cc1_stg1_0) ↦[chunkSet j]{fullShare} g)
/-- The same with any contents. -/
def outE (d j : Dev nD) : sProp 𝕄 := iprop(∃ g, outP (F := F) d j g)
/-- Slot `s` of device `d`'s receive buffer, holding `g`'s slot. -/
def slotP (d : Dev nD) (s : Fin 3) (g : FVec F S3x512x1024 .f32) : sProp 𝕄 :=
  (((d : Thread nD τ).loc cc1_scratch0) ↦[slotSet s]{fullShare} g)
def slotE (d : Dev nD) (s : Fin 3) : sProp 𝕄 := iprop(∃ g, slotP (F := F) d s g)

/-- Slot `s` of device `d` after step `s`: the sum its left neighbour has sent. -/
def slotIn (p : Dev nD → Mat F) (d : Dev nD) (s : Fin 3) : sProp 𝕄 :=
  iprop(∃ g, ⌜(slotM s).view.read (Elt F) g = (chunkM (sh d (7 - s.val))).view.read (Elt F) (acc p s.val (sh d 3))⌝ ∗ slotP (F := F) d s g)

instance outP_storable (d j : Dev nD) (g : Mat F) : BI.Storable (upEmb : UEmb _ 𝕄) (outP (F := F) d j g) := by
  unfold outP; infer_instance
instance outE_storable (d j : Dev nD) : BI.Storable (upEmb : UEmb _ 𝕄) (outE (F := F) d j) := by
  unfold outE; infer_instance
instance slotP_storable (d : Dev nD) (s : Fin 3) (g : FVec F S3x512x1024 .f32) : BI.Storable (upEmb : UEmb _ 𝕄) (slotP (F := F) d s g) := by
  unfold slotP; infer_instance
instance slotE_storable (d : Dev nD) (s : Fin 3) : BI.Storable (upEmb : UEmb _ 𝕄) (slotE (F := F) d s) := by
  unfold slotE; infer_instance
instance slotIn_storable (p : Dev nD → Mat F) (d : Dev nD) (s : Fin 3) : BI.Storable (upEmb : UEmb _ 𝕄) (slotIn p d s) := by
  unfold slotIn; infer_instance

/-! ## The schedule -/

/-- What device `d` receives with the transfer of step `k`: what has landed, and the chunks that are
handed on. All are about the one chunk that is under way. -/
def recvPay (p : Dev nD → Mat F) (d : Dev nD) : ℕ → sProp 𝕄
  | 0 => iprop(slotIn p d 0 ∗ outE (sh d 3) (sh d 3))
  | 1 => iprop(slotIn p d 1 ∗ outE (sh d 3) (sh d 2) ∗ outE (sh d 2) (sh d 2))
  | 2 => iprop(slotIn p d 2 ∗ outE (sh d 3) (sh d 1) ∗ outE (sh d 2) (sh d 1) ∗ outE (sh d 1) (sh d 1))
  | 3 => iprop(outP d d (total p) ∗ outE (sh d 2) d ∗ outE (sh d 1) d)
  | 4 => iprop(outP d (sh d 3) (total p) ∗ outE (sh d 1) (sh d 3))
  | _ => outP d (sh d 2) (total p)

/-- What device `d` gets back when the transfer of step `k` has left: from step 3 on, its source. -/
def sendPay (p : Dev nD → Mat F) (d : Dev nD) : ℕ → sProp 𝕄
  | 3 => outP d (sh d 1) (total p)
  | 4 => outP d d (total p)
  | 5 => outP d (sh d 3) (total p)
  | _ => iprop(emp)

/-- What the right neighbour of `d` hands over at the barrier: its receive slots, and the state of
its receiving semaphores. -/
def readyPay (d : Dev nD) : sProp 𝕄 :=
  iprop((slotE (F := F) (sh d 1) 0 ∗ slotE (F := F) (sh d 1) 1 ∗ slotE (F := F) (sh d 1) 2)
    ∗ reached ER (rCell 0 (sh d 1)) 0 ∗ reached ER (rCell 1 (sh d 1)) 0 ∗ reached ER (rCell 2 (sh d 1)) 0
    ∗ reached ER (rCell 3 (sh d 1)) 0 ∗ reached ER (rCell 4 (sh d 1)) 0 ∗ reached ER (rCell 5 (sh d 1)) 0)

def dmaPay (p : Dev nD → Mat F) (d : Dev nD) : ℕ → sProp 𝕄
  | 11 => recvPay p d 0
  | 12 => recvPay p d 1
  | 13 => recvPay p d 2
  | 14 => sendPay p d 3
  | 15 => sendPay p d 4
  | 16 => sendPay p d 5
  | 17 => recvPay p d 3
  | 18 => recvPay p d 4
  | 19 => recvPay p d 5
  | _ => iprop(emp)

instance recvPay_storable (p : Dev nD → Mat F) (d : Dev nD) (k : ℕ) : BI.Storable (upEmb : UEmb _ 𝕄) (recvPay p d k) := by
  unfold recvPay; split <;> infer_instance
instance sendPay_storable (p : Dev nD → Mat F) (d : Dev nD) (k : ℕ) : BI.Storable (upEmb : UEmb _ 𝕄) (sendPay p d k) := by
  unfold sendPay; split <;> infer_instance
instance readyPay_storable (d : Dev nD) : BI.Storable (upEmb : UEmb _ 𝕄) (readyPay (F := F) d) := by
  unfold readyPay; infer_instance
instance dmaPay_storable (p : Dev nD → Mat F) (d : Dev nD) (k : ℕ) : BI.Storable (upEmb : UEmb _ 𝕄) (dmaPay p d k) := by
  unfold dmaPay; split <;> infer_instance

abbrev IsBar (g : GSem nD τ sig) : Prop := g.1.2 = .tc ∧ g.2 = .reg barrier0
/-- The twelve semaphores of the transfers are numbers 8 to 19. -/
abbrev IsStep (g : GSem nD τ sig) : Prop := g.1.2 = .tc ∧ ∃ q : Fin 12, g.2 = .dma (⟨8 + q.val, by have := q.isLt; show _ < 20; omega⟩ : DmaSem sig)

/-- One round on every cell. The barrier has two duties of one unit: `true` for the right
neighbour's signal, `false` for the left one's. -/
def ringRd (p : Dev nD → Mat F) : Rounds.Schedule (GSem nD τ sig) Bool 𝕄 where
  duties g r := if r = 0 ∧ IsBar g then Finset.univ else if r = 0 ∧ IsStep g then {false} else ∅
  unitless _ := False
  amount g _ _ := if g.2 = .reg barrier0 then 1 else N
  payload g _ d := match g.2 with
    | .reg _ => if d then readyPay g.1.1 else iprop(emp)
    | .dma q => dmaPay p g.1.1 q.val
  amount_pos g _ _ _ := by
    by_cases h : g.2 = .reg barrier0
    · rw [if_pos h]; exact Nat.one_pos
    · rw [if_neg h]; exact N_pos

instance ringRd_payload_storable (p : Dev nD → Mat F) (g : GSem nD τ sig) (r : ℕ) (d : Bool) :
    BI.Storable (upEmb : UEmb _ 𝕄) ((ringRd p).payload g r d) := by
  obtain ⟨t, sm⟩ := g
  cases sm with
  | reg s =>
    show BI.Storable upEmb (if d then readyPay t.1 else iprop(emp))
    split <;> infer_instance
  | dma q =>
    show BI.Storable upEmb (dmaPay p t.1 q.val)
    infer_instance

section Sched
variable (p : Dev nD → Mat F) (c : Dev nD)

theorem duties_bar : (ringRd p).duties (barCell c) 0 = Finset.univ := by dsimp only [ringRd]; exact if_pos ⟨rfl, rfl, rfl⟩
theorem duties_step (q : Fin 12) : (ringRd p).duties ((c : Thread nD τ), .dma (⟨8 + q.val, by have := q.isLt; show _ < 20; omega⟩ : DmaSem sig)) 0 = {false} := by
  dsimp only [ringRd]; rw [if_neg (fun h => by cases h.2.2)]
  exact if_pos ⟨rfl, rfl, q, rfl⟩
theorem duties_later (g : GSem nD τ sig) : ∀ r, 1 ≤ r → (ringRd p).duties g r = ∅ :=
  fun r hr => by dsimp only [ringRd]; rw [if_neg fun h => by omega, if_neg fun h => by omega]

theorem sS_val (k : ℕ) : ∃ q : Fin 12, sS k = (⟨8 + q.val, by have := q.isLt; show _ < 20; omega⟩ : DmaSem sig) := by
  rcases k with _ | _ | _ | _ | _ | k
  exacts [⟨0, rfl⟩, ⟨1, rfl⟩, ⟨2, rfl⟩, ⟨6, rfl⟩, ⟨7, rfl⟩, ⟨8, rfl⟩]
theorem rS_val (k : ℕ) : ∃ q : Fin 12, rS k = (⟨8 + q.val, by have := q.isLt; show _ < 20; omega⟩ : DmaSem sig) := by
  rcases k with _ | _ | _ | _ | _ | k
  exacts [⟨3, rfl⟩, ⟨4, rfl⟩, ⟨5, rfl⟩, ⟨9, rfl⟩, ⟨10, rfl⟩, ⟨11, rfl⟩]

theorem duties_s (k : ℕ) : (ringRd p).duties (sCell k c) 0 = {false} := by
  obtain ⟨q, hq⟩ := sS_val k; unfold sCell; rw [hq]; exact duties_step p c q
theorem duties_r (k : ℕ) : (ringRd p).duties (rCell k c) 0 = {false} := by
  obtain ⟨q, hq⟩ := rS_val k; unfold rCell; rw [hq]; exact duties_step p c q

theorem amount_bar (d : Bool) : (ringRd p).amount (barCell c) 0 d = 1 := by dsimp only [ringRd]; exact if_pos rfl
theorem amount_dma (q : DmaSem sig) (d : Bool) : (ringRd p).amount ((c : Thread nD τ), .dma q) 0 d = N := by
  dsimp only [ringRd]; exact if_neg (fun h => by cases h)

theorem expect_bar : (ringRd p).expect (barCell c) 0 = 2 := by
  unfold Schedule.expect Schedule.amountOf
  rw [duties_bar, Finset.sum_congr rfl fun d _ => amount_bar p c d, Finset.sum_const, Finset.card_univ, Fintype.card_bool, smul_eq_mul]
theorem expect_dma (q : DmaSem sig) (hq : (ringRd p).duties ((c : Thread nD τ), .dma q) 0 = {false}) :
    (ringRd p).expect ((c : Thread nD τ), .dma q) 0 = N := by
  unfold Schedule.expect Schedule.amountOf; rw [hq, Finset.sum_singleton, amount_dma]

theorem payload_bar_true : (ringRd p).payload (barCell c) 0 true = readyPay c := rfl
theorem payload_bar_false : (ringRd p).payload (barCell c) 0 false = iprop(emp) := rfl
theorem payload_dma (q : DmaSem sig) (d : Bool) : (ringRd p).payload ((c : Thread nD τ), .dma q) 0 d = dmaPay p c q.val := rfl
theorem payload_s (k : ℕ) (hk : k < 6) (d : Bool) : (ringRd p).payload (sCell k c) 0 d = sendPay p c k := by
  rcases k with _ | _ | _ | _ | _ | _ | k
  all_goals first | rfl | omega
theorem payload_r (k : ℕ) (hk : k < 6) (d : Bool) : (ringRd p).payload (rCell k c) 0 d = recvPay p c k := by
  rcases k with _ | _ | _ | _ | _ | _ | k
  all_goals first | rfl | omega

theorem rest_bar : bigSep ((ringRd p).duties (barCell c) 0 \ ∅) (fun d => (ringRd p).payload (barCell c) 0 d) = iprop(emp ∗ readyPay (F := F) c) := by
  rw [Finset.sdiff_empty, duties_bar, bigSep_univ_eq_bigSepL [false, true] (by decide) (by decide), bigSepL_cons_cons, bigSepL_singleton]
  rfl
theorem rest_dma (q : DmaSem sig) (hq : (ringRd p).duties ((c : Thread nD τ), .dma q) 0 = {false}) :
    bigSep ((ringRd p).duties ((c : Thread nD τ), .dma q) 0 \ ∅) (fun d => (ringRd p).payload ((c : Thread nD τ), .dma q) 0 d)
      = (ringRd p).payload ((c : Thread nD τ), .dma q) 0 false := by
  rw [Finset.sdiff_empty, hq, bigSep_singleton]

end Sched

/-! ## What each device owes at launch; the levels -/

/-- The receive credits of the last `n` steps, owed to the right neighbour. -/
def Or (c : Dev nD) : ℕ → CellTallies nD τ sig Unit
  | 0 => 0
  | n + 1 => Or c n + tallyAt (rCell (5 - n) (sh c 1)) () N
theorem Or_succ (c : Dev nD) (n : ℕ) : Or c (n + 1) = Or c n + tallyAt (rCell (5 - n) (sh c 1)) () N := rfl
/-- With the two barrier signals, the left neighbour's first. -/
def O₁ (c : Dev nD) : CellTallies nD τ sig Unit := Or c 6 + tallyAt (barCell (sh c 1)) () 1
def O₀ (c : Dev nD) : CellTallies nD τ sig Unit := O₁ c + tallyAt (barCell (sh c 3)) () 1

def L (g : GSem nD τ sig) : Finset Unit := if g.1.2 = .tc then {()} else ∅
/-- The barrier waits first, then the receiving semaphores in the order of the steps. All others are
signalled by the device that waits on them. -/
def lvDma : ℕ → ℕ
  | 11 => 2 | 12 => 3 | 13 => 4 | 17 => 5 | 18 => 6 | 19 => 7 | _ => 0
def lv (g : GSem nD τ sig) (_ : Unit) : ℕ := match g.2 with
  | .reg _ => 1
  | .dma q => lvDma q.val

theorem L_of_ne (g : GSem nD τ sig) (h : g.1.2 ≠ .tc) : L g = ∅ := if_neg h
theorem L_tc (c : Dev nD) (sm : SemLoc sig) : L ((c : Thread nD τ), sm) = {()} := if_pos rfl

theorem lv_r (k : ℕ) (hk : k < 6) (c : Dev nD) (u : Unit) : lv (rCell k c) u = k + 2 := by
  rcases k with _ | _ | _ | _ | _ | _ | k
  all_goals first | rfl | omega
theorem lv_s (k : ℕ) (c : Dev nD) (u : Unit) : lv (sCell k c) u = 0 := by
  rcases k with _ | _ | _ | _ | _ | k
  all_goals rfl

theorem Or_pos {c : Dev nD} {n : ℕ} (hn : n ≤ 6) {g : GSem nD τ sig} {u : Unit} (h : 0 < Or c n g u) :
    ∃ k, 6 - n ≤ k ∧ k < 6 ∧ g = rCell k (sh c 1) := by
  induction n with
  | zero => exact absurd h (Nat.lt_irrefl 0)
  | succ n ih =>
    unfold Or at h
    rw [Pi.add_apply, Finsupp.add_apply, tallyAt_apply] at h
    by_cases hg : g = rCell (5 - n) (sh c 1)
    · exact ⟨5 - n, by omega, by omega, hg⟩
    · rw [if_neg (fun h' => hg h'.1)] at h
      obtain ⟨k, h1, h2, h3⟩ := ih (by omega) h
      exact ⟨k, by omega, h2, h3⟩

theorem O₀_pos {c : Dev nD} {g : GSem nD τ sig} {u : Unit} (h : 0 < O₀ c g u) :
    (∃ k, k < 6 ∧ g = rCell k (sh c 1)) ∨ g = barCell (sh c 1) ∨ g = barCell (sh c 3) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  obtain ⟨k, -, h4, h5⟩ := Or_pos le_rfl h
  exact h1 ⟨k, h4, h5⟩

/-- A device may wait on a semaphore below everything it still owes. -/
theorem mayWait_Or (c : Dev nD) (sm : SemLoc sig) (n : ℕ) (hn : n ≤ 6) (hl : lv ((c : Thread nD τ), sm) () < 8 - n) :
    (levAts L lv : sProp 𝕄) ⊢ MayWait (c : Thread nD τ) sm () (Or c n) :=
  MayOwe.of_cut (L := L) (lev := lv) (7 - n) (fun q hq => by rw [Finset.mem_singleton.mp hq, L_tc]; exact Finset.mem_singleton_self _)
    (fun g u hg => by obtain ⟨k, -, -, rfl⟩ := Or_pos hn hg; exact Finset.mem_singleton_self _)
    (fun q hq => by rw [Finset.mem_singleton.mp hq]; show lv ((c : Thread nD τ), sm) () ≤ 7 - n; omega)
    (fun g u hg => by obtain ⟨k, h1, h2, rfl⟩ := Or_pos hn hg; rw [lv_r k h2]; omega)

end Cert.KernelIdealProof
-- ==== Proof.KernelIdeal.Steps.lean ====
/- One lemma for each kind of step of the ring: a send, the two waits, and the memory operations that
add a received chunk. -/
module

public import proofs.«01_k».proof.Proof.KernelIdeal.Talk
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and their records -/

/-- The twelve transfer semaphores in the order of their numbers. -/
abbrev osem : Fin 12 → SemLoc sig := fun q => .dma (⟨8 + q.val, by have := q.isLt; show _ < 20; omega⟩ : DmaSem sig)
theorem osem_inj : Function.Injective osem := by decide
theorem osem_ne_bar : ∀ q : Fin 12, osem q ≠ .reg barrier0 := by decide

def barEmb : Dev nD ↪ GSem nD τ sig := ⟨fun c => barCell c, fun _ _ h => congrArg (fun g : GSem nD τ sig => g.1.1) h⟩
def stepEmb : Dev nD × Fin 12 ↪ GSem nD τ sig :=
  ⟨fun cq => ((cq.1 : Thread nD τ), osem cq.2), fun _ _ h =>
    Prod.ext (congrArg (fun g : GSem nD τ sig => g.1.1) h) (osem_inj (congrArg Prod.snd h))⟩
abbrev barCells : Finset (GSem nD τ sig) := Finset.univ.map barEmb
abbrev stepCells : Finset (GSem nD τ sig) := Finset.univ.map stepEmb

theorem bar_mem (c : Dev nD) : barCell c ∈ (barCells ∪ stepCells : Finset (GSem nD τ sig)) :=
  Finset.mem_union_left _ (Finset.mem_map_of_mem barEmb (Finset.mem_univ c))
theorem step_mem (c : Dev nD) (q : Fin 12) : ((c : Thread nD τ), osem q) ∈ (barCells ∪ stepCells : Finset (GSem nD τ sig)) :=
  Finset.mem_union_right _ (Finset.mem_map_of_mem stepEmb (Finset.mem_univ (c, q)))
theorem s_mem (k : ℕ) (c : Dev nD) : sCell k c ∈ (barCells ∪ stepCells : Finset (GSem nD τ sig)) := by
  obtain ⟨q, hq⟩ := sS_val k; unfold sCell; rw [hq]; exact step_mem c q
theorem r_mem (k : ℕ) (c : Dev nD) : rCell k c ∈ (barCells ∪ stepCells : Finset (GSem nD τ sig)) := by
  obtain ⟨q, hq⟩ := rS_val k; unfold rCell; rw [hq]; exact step_mem c q

/-- What every device may consult: the invariants of all cells under one map of names, and that every
barrier cell is in its first round. -/
def recs (p : Dev nD → Mat F) (κ : GSem nD τ sig → ℕ) : sProp 𝕄 :=
  iprop((bigSep (barCells ∪ stepCells) fun g => cellInv ER (ringRd p) (κ g) g) ∗ bigSep barCells fun g => reached ER g 0)

instance recs_persistent (p : Dev nD → Mat F) (κ : GSem nD τ sig → ℕ) : BI.Persistent (recs p κ) := by unfold recs; infer_instance

theorem inv_at (p : Dev nD → Mat F) (κ : GSem nD τ sig → ℕ) {g : GSem nD τ sig} (hg : g ∈ (barCells ∪ stepCells : Finset (GSem nD τ sig))) :
    recs p κ ⊢ cellInv ER (ringRd p) (κ g) g := by
  unfold recs
  iintro ⟨#H, -⟩
  iapply (show (bigSep (barCells ∪ stepCells) fun g => (cellInv ER (ringRd p) (κ g) g : sProp 𝕄)) ⊢ cellInv ER (ringRd p) (κ g) g from bigSep_elim hg); iexact H

theorem reached_at (p : Dev nD → Mat F) (κ : GSem nD τ sig → ℕ) (c : Dev nD) : recs p κ ⊢ reached ER (barCell c) 0 := by
  unfold recs
  iintro ⟨-, #H⟩
  iapply (show (bigSep barCells fun g => (reached ER g 0 : sProp 𝕄)) ⊢ reached ER (barCell c) 0 from
    bigSep_elim (Finset.mem_map_of_mem barEmb (Finset.mem_univ c))); iexact H

abbrev 𝒱₀ : Variants := Variants.none

/-! ## A step's ghost state as it goes on -/

/-- Before the send of step `k`. -/
def gStart (k : ℕ) (c : Dev nD) : sProp 𝕄 :=
  iprop((atPos ER (sCell k c) 0 ∅ 0 ∗ reached ER (sCell k c) 0) ∗ atPos ER (rCell k c) 0 ∅ 0
    ∗ dutyTok ER (sCell k c) 0 false ∗ dutyTok ER (rCell k (sh c 1)) 0 false ∗ cred (tallyAt (rCell k c) () N))
/-- After the send. -/
def gSent (k : ℕ) (c : Dev nD) : sProp 𝕄 :=
  iprop((atPos ER (sCell k c) 0 ∅ 0 ∗ cred (tallyAt (sCell k c) () N)) ∗ atPos ER (rCell k c) 0 ∅ 0 ∗ cred (tallyAt (rCell k c) () N))
/-- After the wait for the send. -/
def gLeft (k : ℕ) (c : Dev nD) : sProp 𝕄 :=
  iprop(atPos ER (sCell k c) 1 ∅ 0 ∗ atPos ER (rCell k c) 0 ∅ 0 ∗ cred (tallyAt (rCell k c) () N))
/-- After both waits. -/
def gDone (k : ℕ) (c : Dev nD) : sProp 𝕄 :=
  iprop(atPos ER (sCell k c) 1 ∅ 0 ∗ atPos ER (rCell k c) 1 ∅ 0)
/-- What a device owes, its waits so far left open. -/
def owesE (c : Dev nD) (O : CellTallies nD τ sig Unit) : sProp 𝕄 := iprop(∃ W, owes (c : Thread nD τ) O W)

section Steps

variable (p : Dev nD → Mat F) (κ : GSem nD τ sig → ℕ)

theorem routes_tc (a b : Dev nD) : τ.routes (a : Thread nD τ) (b : Thread nD τ) = true := by routes

theorem sendPay_low (c : Dev nD) {k : ℕ} (hk : k < 3) : sendPay p c k = iprop(emp) := by
  rcases k with _ | _ | _ | k
  all_goals first | rfl | omega

/-- The send of step `k < 3`: the running sum of chunk `j`, to slot `k` of the right neighbour. The
chunk itself is handed over with it, and the chunks `X` that are handed on. -/
theorem wp_send_sum (c n : Dev nD) (hn : n = sh c 1) (s : Fin 3) (j : Dev nD) (hj : sh (sh c 1) (7 - s.val) = j) (X : sProp 𝕄)
    {off : Fin 2 → ℕ} (hoff : off = ![512 * j.val, 0])
    (hX : iprop((slotIn p (sh c 1) s ∗ X) ∗ outP c j (acc p s.val c)) ⊢ recvPay p (sh c 1) s.val)
    {inb : ∀ a, off a + S512x1024.size a ≤ S2048x1024.size a}
    {hst : ∀ a, (Rect.unit (s := S2048x1024) off S512x1024.size inb).stride a = 1}
    {hsc : (slotM s : Memref sig (Dev.tc n : Thread nD τ).2.kind .vmem S512x1024 .f32).view.ref.isScScratch = false}
    {hsrc : (oM.slice (Rect.unit (s := S2048x1024) off S512x1024.size inb) hst).view.WordExact}
    {hdst : (slotM s : Memref sig .tc .vmem S512x1024 .f32).view.WordExact}
    {hsem : DmaTarget.Typed .vmem (.dma (rS s.val)) (.remote (Dev.tc n : Thread nD τ) (slotM s : Memref sig .tc .vmem S512x1024 .f32) (.dma (sS s.val)) hsc)}
    {α : Type} {Q : α → sProp 𝕄} {k : PUnit → Prog (TpuEff nD τ sig (Elt F) Λ₀ .tc) α} :
    iprop(recs p κ ∗ gStart s.val c ∗ reached ER (rCell s.val (sh c 1)) 0 ∗ outP c j (acc p s.val c) ∗ slotE (F := F) (sh c 1) s ∗ X ∗ owesE c (Or c (6 - s.val)))
      ⊢ iprop(((gSent s.val c ∗ owesE c (Or c (5 - s.val))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S2048x1024) off S512x1024.size inb) hst) (.remote (Dev.tc n : Thread nD τ) (slotM s) (.dma (sS s.val)) hsc) (.dma (rS s.val)) hsrc hdst hsem) k) Q) := by
  subst hn; subst hoff
  have hs := s.isLt
  unfold gStart gSent owesE slotE slotP outP
  iintro ⟨#HR, ⟨⟨HaS, #HrS⟩, HaR, HtS, HtR, HcR⟩, #HrR, Ho, ⟨%fd, Hd⟩, HX, ⟨%W, HO⟩⟩ Hk
  iapply (Rounds.wp_send_landing_pointsTo_with 𝒱₀ ER (ringRd p) (c : Thread nD τ) none (κ₁ := κ (sCell s.val c)) (κ₂ := κ (rCell s.val (sh c 1)))
    (c' := (sh c 1 : Thread nD τ)) (src := chunkM j) (dst := slotM s)
    (sS := .dma (sS s.val)) (sem := .dma (rS s.val)) (q := fullShare) (O₀ := Or c (6 - s.val))
    (r₁ := 0) (r₂ := 0) (d₁ := false) (d₂ := false) (fd := fd) (fs := acc p s.val c) (F := X)
    (by rw [duties_s]; exact Finset.mem_singleton_self _) (by rw [duties_r]; exact Finset.mem_singleton_self _)
    () () N (credit_slot s) (amount_dma p c _ false) (amount_dma p (sh c 1) _ false) (Or c (5 - s.val))
    (by rw [show 6 - s.val = (5 - s.val) + 1 by omega, Or_succ, show 5 - (5 - s.val) = s.val by omega]) (W := W)
    (by rw [payload_s p c s.val (by omega), sendPay_low p c hs])
    (by
      rw [payload_r p (sh c 1) s.val (by omega), set_chunk, set_slot]
      iintro ⟨⟨H, HX⟩, Ho⟩
      iapply hX
      isplitr [Ho]
      rotate_left
      · unfold outP; iexact Ho
      isplitr [HX]
      rotate_left
      · iexact HX
      unfold slotIn slotP
      iexists _
      isplitr [H]
      rotate_left
      · iexact H
      · ipureintro
        rw [View.read_write_univ, hj, sh_sh, sh_back]) (hr := routes_tc c (sh c 1))) $$ [HtS HtR Ho Hd HX HO]
  · isplitr; · iapply (inv_at p κ (s_mem s.val c)); iexact HR
    isplitr; · iapply (inv_at p κ (r_mem s.val (sh c 1))); iexact HR
    isplitl [Ho]; · rw [set_chunk]; iexact Ho
    isplitl [Hd HX]
    · isplitl [Hd]; · rw [set_slot]; iexact Hd
      iexact HX
    isplitl [HO]; · iexact HO
    isplitl [HtS]; · iexact HtS
    isplitr; · iexact HrS
    isplitl [HtR]; · iexact HtR
    iexact HrR
  iintro ⟨HcS, HO⟩
  iapply Hk
  isplitl [HaS HcS HaR HcR]
  · isplitl [HaS HcS]
    · isplitl [HaS] <;> iassumption
    isplitl [HaR] <;> iassumption
  iexists W; iexact HO

/-- Writing `g`'s chunk over chunk `j` leaves `g`'s chunk. -/
theorem write_chunk (j : Dev nD) (f g : Mat F) (w : S512x1024.Idx → Elt F .f32) (hw : w = (chunkM j).view.read (Elt F) g)
    {i : S2048x1024.Idx} (hi : i ∈ chunkSet j) : (chunkM j).view.write (Elt F) f w Finset.univ i = g i := by
  rw [← set_chunk] at hi
  obtain ⟨x, -, rfl⟩ := Finset.mem_map.mp hi
  rw [View.write_emb_of_mem _ _ (Finset.mem_univ x), hw]
  rfl

/-- The send of step `k ≥ 3`: the finished chunk `j`, to the same place on the right neighbour. -/
theorem wp_send_chunk (c n : Dev nD) (hn : n = sh c 1) (k : ℕ) (hk : k < 6) (j : Dev nD) (X : sProp 𝕄)
    {off : Fin 2 → ℕ} (hoff : off = ![512 * j.val, 0])
    (hS : outP c j (total p) ⊢ sendPay p c k)
    (hX : iprop(outP (sh c 1) j (total p) ∗ X) ⊢ recvPay p (sh c 1) k)
    {inb inb' : ∀ a, off a + S512x1024.size a ≤ S2048x1024.size a}
    {hst : ∀ a, (Rect.unit (s := S2048x1024) off S512x1024.size inb).stride a = 1}
    {hst' : ∀ a, (Rect.unit (s := S2048x1024) off S512x1024.size inb').stride a = 1}
    {hsc : (oM.slice (Rect.unit (s := S2048x1024) off S512x1024.size inb') hst' : Memref sig (Dev.tc n : Thread nD τ).2.kind .vmem S512x1024 .f32).view.ref.isScScratch = false}
    {hsrc : (oM.slice (Rect.unit (s := S2048x1024) off S512x1024.size inb) hst).view.WordExact}
    {hdst : (oM.slice (Rect.unit (s := S2048x1024) off S512x1024.size inb') hst' : Memref sig .tc .vmem S512x1024 .f32).view.WordExact}
    {hsem : DmaTarget.Typed .vmem (.dma (rS k)) (.remote (Dev.tc n : Thread nD τ) (oM.slice (Rect.unit (s := S2048x1024) off S512x1024.size inb') hst' : Memref sig .tc .vmem S512x1024 .f32) (.dma (sS k)) hsc)}
    {α : Type} {Q : α → sProp 𝕄} {kk : PUnit → Prog (TpuEff nD τ sig (Elt F) Λ₀ .tc) α} :
    iprop(recs p κ ∗ gStart k c ∗ reached ER (rCell k (sh c 1)) 0 ∗ outP c j (total p) ∗ outE (F := F) (sh c 1) j ∗ X ∗ owesE c (Or c (6 - k)))
      ⊢ iprop(((gSent k c ∗ owesE c (Or c (5 - k))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oM.slice (Rect.unit (s := S2048x1024) off S512x1024.size inb) hst) (.remote (Dev.tc n : Thread nD τ) (oM.slice (Rect.unit (s := S2048x1024) off S512x1024.size inb') hst') (.dma (sS k)) hsc) (.dma (rS k)) hsrc hdst hsem) kk) Q) := by
  subst hn; subst hoff
  unfold gStart gSent owesE outE
  iintro ⟨#HR, ⟨⟨HaS, #HrS⟩, HaR, HtS, HtR, HcR⟩, #HrR, Ho, ⟨%fd, Hd⟩, HX, ⟨%W, HO⟩⟩ Hk
  iapply (Rounds.wp_send_pointsTo_with 𝒱₀ ER (ringRd p) (c : Thread nD τ) none (κ₁ := κ (sCell k c)) (κ₂ := κ (rCell k (sh c 1)))
    (c' := (sh c 1 : Thread nD τ)) (src := chunkM j) (dst := chunkM j)
    (sS := .dma (sS k)) (sem := .dma (rS k)) (q := fullShare) (O₀ := Or c (6 - k))
    (r₁ := 0) (r₂ := 0) (d₁ := false) (d₂ := false) (fd := fd) (fs := total p) (F := X)
    (by rw [duties_s]; exact Finset.mem_singleton_self _) (by rw [duties_r]; exact Finset.mem_singleton_self _)
    () () N (credit_chunk j) (amount_dma p c _ false) (amount_dma p (sh c 1) _ false) (Or c (5 - k))
    (by rw [show 6 - k = (5 - k) + 1 by omega, Or_succ, show 5 - (5 - k) = k by omega]) (W := W)
    (by
      rw [payload_s p c k hk, set_chunk]
      iintro H
      iapply hS
      unfold outP; iexact H)
    (by
      rw [payload_r p (sh c 1) k hk, set_chunk]
      iintro ⟨H, HX⟩
      iapply hX
      isplitr [HX]
      rotate_left
      · iexact HX
      unfold outP
      iapply (Entails.of_eq (pointsTo_congr fun i hi => write_chunk j fd (total p) _ rfl hi)); iexact H) (hr := routes_tc c (sh c 1))) $$ [HtS HtR Ho Hd HX HO]
  · isplitr; · iapply (inv_at p κ (s_mem k c)); iexact HR
    isplitr; · iapply (inv_at p κ (r_mem k (sh c 1))); iexact HR
    isplitl [Ho]; · rw [set_chunk]; unfold outP; iexact Ho
    isplitl [Hd HX]
    · isplitl [Hd]; · rw [set_chunk]; unfold outP; iexact Hd
      iexact HX
    isplitl [HO]; · iexact HO
    isplitl [HtS]; · iexact HtS
    isplitr; · iexact HrS
    isplitl [HtR]; · iexact HtR
    iexact HrR
  iintro ⟨HcS, HO⟩
  iapply Hk
  isplitl [HaS HcS HaR HcR]
  · isplitl [HaS HcS]
    · isplitl [HaS] <;> iassumption
    isplitl [HaR] <;> iassumption
  iexists W; iexact HO

/-- A wait for all of one transfer cell's round. -/
theorem wp_wait_step (c : Dev nD) (q : DmaSem sig) (hq : (ringRd p).duties ((c : Thread nD τ), .dma q) 0 = {false})
    (hm : ((c : Thread nD τ), SemLoc.dma q) ∈ (barCells ∪ stepCells : Finset (GSem nD τ sig)))
    (n : ℕ) (hn : n ≤ 6) (hl : lv ((c : Thread nD τ), .dma q) () < 8 - n)
    {src dst : Memref sig .tc .vmem S512x1024 .f32} {hsrc : src.view.WordExact} {hdst : dst.view.WordExact} (hN : dst.view.dmaCredit = N)
    {α : Type} {Q : α → sProp 𝕄} {k : PUnit → Prog (TpuEff nD τ sig (Elt F) Λ₀ .tc) α} :
    iprop(recs p κ ∗ levAts L lv ∗ cred (tallyAt ((c : Thread nD τ), SemLoc.dma q) () N) ∗ owesE c (Or c n) ∗ atPos ER ((c : Thread nD τ), .dma q) 0 ∅ 0)
      ⊢ iprop(((owesE c (Or c n) ∗ atPos ER ((c : Thread nD τ), .dma q) 1 ∅ 0
            ∗ (ringRd p).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owesE
  iintro ⟨#HR, #Hlev, Hc, ⟨%W, HO⟩, Hat⟩ Hk
  iapply (Rounds.wp_wait_rest_token 𝒱₀ ER (ringRd p) (c : Thread nD τ) none (κ := κ ((c : Thread nD τ), SemLoc.dma q))
      (wpE_waitDma2_eq 𝒱₀ (c : Thread nD τ) none Set.univ) (Set.mem_univ _) () (O := Or c n) (W := W) (R := 0) (m := 0) (T := ∅)
      (by rw [Nat.zero_add, hN, expect_dma p c q hq])) $$ [Hc HO Hat]
  · isplitr; · iapply (inv_at p κ hm); iexact HR
    isplitl [Hc]; · rw [hN]; iexact Hc
    isplitl [HO]; · iexact HO
    isplitr; · iapply (mayWait_Or c (.dma q) n hn hl); iexact Hlev
    iexact Hat
  iintro ⟨HO, Hat, -, Hpay⟩
  iapply Hk
  isplitl [HO]; · iexists _; iexact HO
  isplitl [Hat]; · iexact Hat
  iapply (Entails.of_eq (rest_dma p c q hq)); iexact Hpay

/-- The wait until the transfer of step `k` has left. -/
theorem wp_wait_sent (c : Dev nD) (k : ℕ) (hk : k < 6)
    {src dst : Memref sig .tc .vmem S512x1024 .f32} {hsrc : src.view.WordExact} {hdst : dst.view.WordExact} (hN : dst.view.dmaCredit = N)
    {α : Type} {Q : α → sProp 𝕄} {kk : PUnit → Prog (TpuEff nD τ sig (Elt F) Λ₀ .tc) α} :
    iprop(recs p κ ∗ levAts L lv ∗ gSent k c ∗ owesE c (Or c (5 - k)))
      ⊢ iprop(((gLeft k c ∗ owesE c (Or c (5 - k)) ∗ sendPay p c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sS k) src dst hsrc hdst) kk) Q) := by
  unfold gSent gLeft
  iintro ⟨#HR, #Hlev, ⟨⟨HaS, HcS⟩, HaR, HcR⟩, HO⟩ Hk
  iapply (wp_wait_step p κ c (sS k) (duties_s p c k) (s_mem k c) (5 - k) (by omega) (by rw [lv_s]; omega) hN) $$ [HaS HcS HO]
  · isplitr; · iexact HR
    isplitr; · iexact Hlev
    isplitl [HcS]; · iexact HcS
    isplitl [HO] <;> iassumption
  iintro ⟨HO, HaS, Hp⟩
  iapply Hk
  isplitl [HaS HaR HcR]
  · isplitl [HaS]; · iexact HaS
    isplitl [HaR] <;> iassumption
  isplitl [HO]; · iexact HO
  iapply (Entails.of_eq (payload_s p c k hk false)); iexact Hp

/-- The wait until the left neighbour's transfer of step `k` has landed. -/
theorem wp_wait_recv (c : Dev nD) (k : ℕ) (hk : k < 6)
    {src dst : Memref sig .tc .vmem S512x1024 .f32} {hsrc : src.view.WordExact} {hdst : dst.view.WordExact} (hN : dst.view.dmaCredit = N)
    {α : Type} {Q : α → sProp 𝕄} {kk : PUnit → Prog (TpuEff nD τ sig (Elt F) Λ₀ .tc) α} :
    iprop(recs p κ ∗ levAts L lv ∗ gLeft k c ∗ owesE c (Or c (5 - k)))
      ⊢ iprop(((gDone k c ∗ owesE c (Or c (5 - k)) ∗ recvPay p c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rS k) src dst hsrc hdst) kk) Q) := by
  unfold gLeft gDone
  iintro ⟨#HR, #Hlev, ⟨HaS, HaR, HcR⟩, HO⟩ Hk
  iapply (wp_wait_step p κ c (rS k) (duties_r p c k) (r_mem k c) (5 - k) (by omega) (by rw [lv_r k hk]; omega) hN) $$ [HaR HcR HO]
  · isplitr; · iexact HR
    isplitr; · iexact Hlev
    isplitl [HcR]; · iexact HcR
    isplitl [HO] <;> iassumption
  iintro ⟨HO, HaR, Hp⟩
  iapply Hk
  isplitl [HaS HaR]
  · isplitl [HaS] <;> iassumption
  isplitl [HO]; · iexact HO
  iapply (Entails.of_eq (payload_r p c k hk false)); iexact Hp

/-! ## The memory operations -/

/-- Chunk `j` as the loads and stores address it. -/
abbrev chunkR (j : Dev nD) : Rect S2048x1024 := Rect.unit (s := S2048x1024) ![512 * j.val, 0] S512x1024.size (inb_chunk j)

/-- A load of chunk `j`. -/
theorem wp_load_chunk (c j : Dev nD) (g : Mat F) {off : Fin 2 → ℕ} (hoff : off = ![512 * j.val, 0])
    {inb : ∀ a, off a + S512x1024.size a ≤ S2048x1024.size a}
    {hl : (oM : Memref sig .tc .vmem S2048x1024 .f32).view.LoadsAt (Rect.unit (s := S2048x1024) off S512x1024.size inb).toLoadRect}
    {α : Type} {Q : α → sProp 𝕄} {k : ((Rect.unit (s := S2048x1024) off S512x1024.size inb).shape.Idx → Elt F .f32) → Prog (TpuEff nD τ sig (Elt F) Λ₀ .tc) α} :
    outP c j g ⊢ iprop((outP c j g -∗ wp frame (wpE (defs₀ (F := F)) 𝒱₀ (c : Thread nD τ) none) Set.univ
          (k ((oM.access (chunkR j)).read (Elt F) g)) Q)
      -∗ wp frame (wpE (defs₀ (F := F)) 𝒱₀ (c : Thread nD τ) none) Set.univ
          (.op (.load oM (Rect.unit (s := S2048x1024) off S512x1024.size inb).toLoadRect hl) k) Q) := by
  subst hoff
  have hS : ((oM.access (chunkR j)) : View sig .tc _ _ .f32).set ⊆ chunkSet j := (set_chunk j).subset
  unfold outP
  iintro H Hk
  iapply (wp_load_rect 𝒱₀ (c : Thread nD τ) none Set.univ hS) $$ H
  iexact Hk

/-- Slot `s` as the loads address it. -/
abbrev slotR (s : Fin 3) : Rect S3x512x1024 := Rect.unit (s := S3x512x1024) ![s.val, 0, 0] S1x512x1024.size (inb_slot s)

/-- A load of slot `s`. -/
theorem wp_load_slot (c : Dev nD) (s : Fin 3) (g : FVec F S3x512x1024 .f32)
    {hl : (rM : Memref sig .tc .vmem S3x512x1024 .f32).view.LoadsAt (slotR s).toLoadRect}
    {α : Type} {Q : α → sProp 𝕄} {k : ((slotR s).shape.Idx → Elt F .f32) → Prog (TpuEff nD τ sig (Elt F) Λ₀ .tc) α} :
    slotP c s g ⊢ iprop((slotP c s g -∗ wp frame (wpE (defs₀ (F := F)) 𝒱₀ (c : Thread nD τ) none) Set.univ
          (k ((rM.access (slotR s)).read (Elt F) g)) Q)
      -∗ wp frame (wpE (defs₀ (F := F)) 𝒱₀ (c : Thread nD τ) none) Set.univ
          (.op (.load rM (slotR s).toLoadRect hl) k) Q) := by
  have hS : ((rM.access (slotR s)) : View sig .tc _ _ .f32).set ⊆ slotSet s := ((View.set_slice_whole _ _).trans (rect_slot s)).subset
  unfold slotP
  iintro H Hk
  iapply (wp_load_rect 𝒱₀ (c : Thread nD τ) none Set.univ hS) $$ H
  iexact Hk

/-- A store of `g`'s chunk `j`. -/
theorem wp_store_chunk (c j : Dev nD) (f g : Mat F) {off : Fin 2 → ℕ} (hoff : off = ![512 * j.val, 0])
    {inb : ∀ a, off a + S512x1024.size a ≤ S2048x1024.size a}
    (w : (Rect.unit (s := S2048x1024) off S512x1024.size inb).shape.Idx → Elt F .f32) (hw : w = (chunkM j).view.read (Elt F) g)
    {hx : ((oM : Memref sig .tc .vmem S2048x1024 .f32).access (Rect.unit (s := S2048x1024) off S512x1024.size inb)).Stores Finset.univ}
    {hm : (Finset.univ : Finset (Rect.unit (s := S2048x1024) off S512x1024.size inb).shape.Idx) = Finset.univ ∨ ∀ a, (Rect.unit (s := S2048x1024) off S512x1024.size inb).stride a = 1}
    {α : Type} {Q : α → sProp 𝕄} {k : PUnit → Prog (TpuEff nD τ sig (Elt F) Λ₀ .tc) α} :
    outP c j f ⊢ iprop((outP c j g -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S2048x1024) off S512x1024.size inb) w Finset.univ hx hm) k) Q) := by
  subst hoff
  have hS : ((oM.access (chunkR j)) : View sig .tc _ _ .f32).setOn Finset.univ ⊆ chunkSet j := (set_chunk j).subset
  unfold outP
  iintro H Hk
  iapply (wp_store 𝒱₀ (c : Thread nD τ) none Set.univ hS) $$ H
  iintro H
  iapply Hk
  iapply (Entails.of_eq (pointsTo_congr fun i hi => write_chunk j f g w hw hi)); iexact H

/-- The sum that is stored in step `s`. -/
theorem add_chunk (c : Dev nD) (s : Fin 3) (j : Dev nD) (g : FVec F S3x512x1024 .f32)
    (hg : (slotM s).view.read (Elt F) g = (chunkM j).view.read (Elt F) (acc p s.val (sh c 3))) :
    addf (shapeCast S512x1024 ((oM.access (chunkR j)).read (Elt F) (p c) : Vec F S512x1024 .f32) shapeCasts_S512x1024_S512x1024 : FVec F S512x1024 .f32)
        (shapeCast S512x1024 ((rM.access (slotR s)).read (Elt F) g : Vec F S1x512x1024 .f32) shapeCasts_S1x512x1024_S512x1024)
      = (chunkM j).view.read (Elt F) (acc p (s.val + 1) c) := by
  have e : shapeCast S512x1024 ((oM.access (chunkR j)).read (Elt F) (p c) : Vec F S512x1024 .f32) shapeCasts_S512x1024_S512x1024
      = (chunkM j).view.read (Elt F) (p c) := shapeCast_self _ _
  rw [e]
  rw [show shapeCast S512x1024 ((rM.access (slotR s)).read (Elt F) g : Vec F S1x512x1024 .f32) shapeCasts_S1x512x1024_S512x1024
    = (slotM s).view.read (Elt F) g from rfl, hg]
  rfl

end Steps

end Cert.KernelIdealProof
-- ==== Proof.KernelIdeal.Attn.lean ====
/- The attention kernel, written once for any block of rows and any head, and that the program is the
sequence of its eight row blocks with eight heads each. -/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers -/

abbrev xM : Memref sig .tc .vmem S2048x1024 .f32 := Memref.whole cc0_stg0_0
abbrev wqM : Memref sig .tc .vmem S1024x1024 .f32 := Memref.whole cc0_stg1_0
abbrev kM : Memref sig .tc .vmem S8x2048x128 .f32 := Memref.whole cc0_stg2_0
abbrev vM : Memref sig .tc .vmem S8x2048x128 .f32 := Memref.whole cc0_stg3_0
abbrev woM : Memref sig .tc .vmem S1024x1024 .f32 := Memref.whole cc0_stg4_0
abbrev paM : Memref sig .tc .vmem S2048x1024 .f32 := Memref.whole cc0_stg5_0
abbrev cxM : Memref sig .tc .vmem S256x1024 .f32 := Memref.whole cc0_scratch0

theorem inb_rows (qb : Fin 8) : ∀ a, (![256 * qb.val, 0] : Fin 2 → ℕ) a + S256x1024.size a ≤ S2048x1024.size a := by
  revert qb; decide
theorem inb_head (h : Fin 8) : ∀ a, (![h.val, 0, 0] : Fin 3 → ℕ) a + S1x2048x128.size a ≤ S8x2048x128.size a := by
  revert h; decide
theorem inb_cols (h : Fin 8) : ∀ a, (![0, 128 * h.val] : Fin 2 → ℕ) a + S256x128.size a ≤ S256x1024.size a := by
  revert h; decide
theorem slices_cols (h : Fin 8) : S256x1024.Slices ![0, 128 * h.val] S256x128 := by
  revert h; decide

/-- The rows of a block, a head's keys or values, a head's columns of the context, and whole buffers. -/
abbrev rowsR (qb : Fin 8) : Rect S2048x1024 := Rect.unit (s := S2048x1024) ![256 * qb.val, 0] S256x1024.size (inb_rows qb)
abbrev headR (h : Fin 8) : Rect S8x2048x128 := Rect.unit (s := S8x2048x128) ![h.val, 0, 0] S1x2048x128.size (inb_head h)
abbrev colsR (h : Fin 8) : Rect S256x1024 := Rect.unit (s := S256x1024) ![0, 128 * h.val] S256x128.size (inb_cols h)
abbrev weightR : Rect S1024x1024 := Rect.unit (s := S1024x1024) ![0, 0] S1024x1024.size inb_S1024x1024_S1024x1024_0_0
abbrev ctxR : Rect S256x1024 := Rect.unit (s := S256x1024) ![0, 0] S256x1024.size inb_S256x1024_S256x1024_0_0

/-! ## The values -/

/-- The quotient by 64, rounded down, as the program computes it. -/
def floor64 (v : IVec S256x2048 32) : IVec S256x2048 32 :=
  select (andi (cmpi .ne (subi (extui 32 (cmpi .sgt v (broadcast S256x2048 0#32)) natLt_1_32) (extui 32 (cmpi .slt v (broadcast S256x2048 0#32)) natLt_1_32))
      (broadcast S256x2048 (Scalar.subi (Scalar.extui (Scalar.cmpi .sgt 64#32 0#32)) (Scalar.extui (Scalar.cmpi .slt 64#32 0#32)))))
    (cmpi .ne (remsi v (broadcast S256x2048 64#32)) (broadcast S256x2048 0#32)))
    (subi (divsi v (broadcast S256x2048 64#32)) (broadcast S256x2048 1#32)) (divsi v (broadcast S256x2048 64#32))
/-- The number of a row's 64-block, in row block `qb`, and of a column's. -/
def rowB (qb : Fin 8) : IVec S256x2048 32 :=
  addi (floor64 (iota .tc S256x2048 32 [0] iota_S256x2048_d0_w32)) (broadcast S256x2048 (BitVec.ofNat 32 (4 * qb.val)))
def colB : IVec S256x2048 32 := floor64 (iota .tc S256x2048 32 [1] iota_S256x2048_d1_w32)
/-- Where row block `qb` attends. -/
def maskV (qb : Fin 8) : IVec S256x2048 1 :=
  ori (ori (cmpi .eq (rowB qb) colB) (cmpi .eq colB (broadcast S256x2048 0#32)))
    (cmpi .eq (remsi (addi (rowB qb) colB) (broadcast S256x2048 3#32)) (broadcast S256x2048 0#32))

/-- The queries of a row block. -/
def queryV (x : Vec F S256x1024 .f32) (w : Vec F S1024x1024 .f32) : FVec F S256x1024 .f32 :=
  matmul dot_S256x1024_S1024x1024_S256x1024_1_0_0_1_n_n none (shapeCast S256x1024 x shapeCasts_S256x1024_S256x1024)
    (shapeCast S1024x1024 w shapeCasts_S1024x1024_S1024x1024) (constant S256x1024 .f32 0x00000000#32)
/-- The scores of head `h`. -/
def scoreV (h : Fin 8) (q : FVec F S256x1024 .f32) (k : Vec F S1x2048x128 .f32) : FVec F S256x2048 .f32 :=
  mulf (matmul dot_S256x128_S2048x128_S256x2048_1_1_0_0_n_n none (extractStridedSlice S256x128 ![0, 128 * h.val] q (slices_cols h))
      (shapeCast S2048x128 k shapeCasts_S1x2048x128_S2048x128) (constant S256x2048 .f32 0x00000000#32))
    (broadcast S256x2048 (Scalar.ofBits .f32 0x3DB504F3#32))
def maskedV (qb : Fin 8) (s : FVec F S256x2048 .f32) : FVec F S256x2048 .f32 :=
  select (maskV qb) s (broadcast S256x2048 (Scalar.ofBits .f32 0xCE6E6B28#32))
/-- The exponentials of a row less its maximum. -/
def expV (s : FVec F S256x2048 .f32) : FVec F S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))
/-- A row divided by its sum. -/
def normV (e : FVec F S256x2048 .f32) : FVec F S256x2048 .f32 :=
  divf e (broadcastTo S256x2048 (shapeCast S256x1 (multiReduction .add [1] S256 e 0x00000000#32 reduces_S256x2048_S256 (.inl rfl) rfl) shapeCasts_S256_S256x1) broadcasts_S256x1_S256x2048)
/-- The context of head `h`. -/
def headV (qb h : Fin 8) (q : FVec F S256x1024 .f32) (k v : Vec F S1x2048x128 .f32) : FVec F S256x128 .f32 :=
  shapeCast S256x128 (matmul dot_S256x2048_S2048x128_S256x128_1_0_0_1_n_n none (normV (expV (maskedV qb (scoreV h q k))))
    (shapeCast S2048x128 v shapeCasts_S1x2048x128_S2048x128) (constant S256x128 .f32 0x00000000#32)) shapeCasts_S256x128_S256x128
/-- The context times the output weights. -/
def projV (c : Vec F S256x1024 .f32) (w : Vec F S1024x1024 .f32) : FVec F S256x1024 .f32 :=
  matmul dot_S256x1024_S1024x1024_S256x1024_1_0_0_1_n_n none c (shapeCast S1024x1024 w shapeCasts_S1024x1024_S1024x1024) (constant S256x1024 .f32 0x00000000#32)

/-! ## The program -/

abbrev PT (F : FTy → Type) [FloatOps F] : Type _ := Prog (TpuEff nD τ sig (Elt F) Λ₀ .tc) PUnit

/-- One head of one row block, and what follows it. -/
def headP (qb h : Fin 8) (q : FVec F S256x1024 .f32) (next : PT F) : PT F :=
  .op (.load kM (headR h).toLoadRect (View.loadsAt_vmem h_S1x2048x128)) fun k =>
  .op (.load vM (headR h).toLoadRect (View.loadsAt_vmem h_S1x2048x128)) fun v =>
  .op (.load cxM (colsR h).toLoadRect (View.loadsAt_vmem h_S256x128)) fun _ =>
  .op (.store cxM (colsR h) (headV qb h q k v) Finset.univ (View.stores_vmem_bits_univ h_S256x128 rfl) (.inl rfl)) fun _ => next

/-- The end of one row block, and what follows it. -/
def projP (qb : Fin 8) (next : PT F) : PT F :=
  .op (.load cxM ctxR.toLoadRect (View.loadsAt_vmem h_S256x1024)) fun c =>
  .op (.load woM weightR.toLoadRect (View.loadsAt_vmem h_S1024x1024)) fun w =>
  .op (.load paM (rowsR qb).toLoadRect (View.loadsAt_vmem h_S256x1024)) fun _ =>
  .op (.store paM (rowsR qb) (projV c w) Finset.univ (View.stores_vmem_bits_univ h_S256x1024 rfl) (.inl rfl)) fun _ => next

/-- One row block, and what follows it. -/
def blockP (qb : Fin 8) (next : PT F) : PT F :=
  .op (.load xM (rowsR qb).toLoadRect (View.loadsAt_vmem h_S256x1024)) fun x =>
  .op (.load wqM weightR.toLoadRect (View.loadsAt_vmem h_S1024x1024)) fun w =>
  headP qb 0 (queryV x w) (headP qb 1 (queryV x w) (headP qb 2 (queryV x w) (headP qb 3 (queryV x w)
    (headP qb 4 (queryV x w) (headP qb 5 (queryV x w) (headP qb 6 (queryV x w) (headP qb 7 (queryV x w) (projP qb next))))))))

def attnP : PT F :=
  blockP 0 (blockP 1 (blockP 2 (blockP 3 (blockP 4 (blockP 5 (blockP 6 (blockP 7 (.ret ⟨⟩))))))))

set_option maxRecDepth 65536 in
theorem attn_eq : cc0__attn_body (F := F) xM (Memref.isWhole_whole _) wqM (Memref.isWhole_whole _) kM (Memref.isWhole_whole _) vM (Memref.isWhole_whole _)
    woM (Memref.isWhole_whole _) paM (Memref.isWhole_whole _) cxM (Memref.isWhole_whole _) = attnP := by
  rfl

/-! ## What the buffers hold -/

section Values
variable (x : Mat F) (wq wo : FVec F S1024x1024 .f32) (k v : FVec F S8x2048x128 .f32)

def rowsOf (qb : Fin 8) : Vec F S256x1024 .f32 := (xM.access (rowsR qb)).read (Elt F) x
def keysOf (h : Fin 8) : Vec F S1x2048x128 .f32 := (kM.access (headR h)).read (Elt F) k
def valsOf (h : Fin 8) : Vec F S1x2048x128 .f32 := (vM.access (headR h)).read (Elt F) v
/-- The context of row block `qb`: head `h` fills columns `128 * h` up to `128 * h + 128`. -/
def ctxHead (qb h : Fin 8) : FVec F S256x128 .f32 := headV qb h (queryV (rowsOf x qb) wq) (keysOf k h) (valsOf v h)
def ctxOf (qb : Fin 8) : FVec F S256x1024 .f32 := fun i =>
  ctxHead x wq k v qb ⟨(i (1 : Fin 2)).val / 128, by have : (i (1 : Fin 2)).val < 1024 := (i (1 : Fin 2)).isLt; omega⟩
    (fun a => ⟨(i a).val % S256x128.size a, Nat.mod_lt _ ((by decide : ∀ a, 0 < S256x128.size a) a)⟩)
/-- The device's contribution: row block `qb` fills rows `256 * qb` up to `256 * qb + 256`. -/
def partialOf : Mat F := fun i =>
  projV (ctxOf x wq k v ⟨(i (0 : Fin 2)).val / 256, by have : (i (0 : Fin 2)).val < 2048 := (i (0 : Fin 2)).isLt; omega⟩) wo
    (fun a => ⟨(i a).val % S256x1024.size a, Nat.mod_lt _ ((by decide : ∀ a, 0 < S256x1024.size a) a)⟩)

/-- The context buffer after the store of head `h`, and the result's after the store of block `qb`. -/
def putHead (qb h : Fin 8) (g : FVec F S256x1024 .f32) : FVec F S256x1024 .f32 :=
  (cxM.access (colsR h)).write (Elt F) g (ctxHead x wq k v qb h) Finset.univ
def putRows (qb : Fin 8) (o : Mat F) : Mat F :=
  (paM.access (rowsR qb)).write (Elt F) o (projV (ctxOf x wq k v qb) wo) Finset.univ

theorem putHead_spec (qb h : Fin 8) (g : FVec F S256x1024 .f32) (hg : ∀ i : S256x1024.Idx, (i (1 : Fin 2)).val < 128 * h.val → g i = ctxOf x wq k v qb i) :
    ∀ i : S256x1024.Idx, (i (1 : Fin 2)).val < 128 * (h.val + 1) → putHead x wq k v qb h g i = ctxOf x wq k v qb i := by
  intro i hi
  unfold putHead
  by_cases hc : (i (1 : Fin 2)).val < 128 * h.val
  · rw [View.write_of_not_mem, hg i hc]
    intro hm
    have hm' : i ∈ (colsR h).set := by
      have := (View.set_slice_whole cc0_scratch0 (colsR h)).subset (View.setOn_subset_set _ _ hm)
      exact this
    rw [Rect.mem_set_unit] at hm'
    have := hm' (1 : Fin 2)
    change 128 * h.val ≤ _ ∧ _ at this
    omega
  · let j : S256x128.Idx := fun a => ⟨(i a).val % S256x128.size a, Nat.mod_lt _ ((by decide : ∀ a, 0 < S256x128.size a) a)⟩
    have h0 : (i (0 : Fin 2)).val < 256 := (i (0 : Fin 2)).isLt
    have hij : i = (cxM.access (colsR h)).emb j := by
      funext a; apply Fin.ext
      fin_cases a
      · show (i (0 : Fin 2)).val = 0 + 1 * ((i (0 : Fin 2)).val % 256); omega
      · show (i (1 : Fin 2)).val = 128 * h.val + 1 * ((i (1 : Fin 2)).val % 128); omega
    have hh : h = ⟨(i (1 : Fin 2)).val / 128, by have : (i (1 : Fin 2)).val < 1024 := (i (1 : Fin 2)).isLt; omega⟩ := by
      apply Fin.ext; show h.val = (i (1 : Fin 2)).val / 128; omega
    have e : ctxOf x wq k v qb i = ctxHead x wq k v qb h j := by rw [ctxOf, ← hh]
    rw [e, hij, View.write_emb_of_mem _ _ (Finset.mem_univ j)]
    rfl

theorem putRows_spec (qb : Fin 8) (o : Mat F) (ho : ∀ i : S2048x1024.Idx, (i (0 : Fin 2)).val < 256 * qb.val → o i = partialOf x wq wo k v i) :
    ∀ i : S2048x1024.Idx, (i (0 : Fin 2)).val < 256 * (qb.val + 1) → putRows x wq wo k v qb o i = partialOf x wq wo k v i := by
  intro i hi
  unfold putRows
  by_cases hc : (i (0 : Fin 2)).val < 256 * qb.val
  · rw [View.write_of_not_mem, ho i hc]
    intro hm
    have hm' : i ∈ (rowsR qb).set := by
      have := (View.set_slice_whole cc0_stg5_0 (rowsR qb)).subset (View.setOn_subset_set _ _ hm)
      exact this
    rw [Rect.mem_set_unit] at hm'
    have := hm' (0 : Fin 2)
    change 256 * qb.val ≤ _ ∧ _ at this
    omega
  · let j : S256x1024.Idx := fun a => ⟨(i a).val % S256x1024.size a, Nat.mod_lt _ ((by decide : ∀ a, 0 < S256x1024.size a) a)⟩
    have h1 : (i (1 : Fin 2)).val < 1024 := (i (1 : Fin 2)).isLt
    have hij : i = (paM.access (rowsR qb)).emb j := by
      funext a; apply Fin.ext
      fin_cases a
      · show (i (0 : Fin 2)).val = 256 * qb.val + 1 * ((i (0 : Fin 2)).val % 256); omega
      · show (i (1 : Fin 2)).val = 0 + 1 * ((i (1 : Fin 2)).val % 1024); omega
    have hh : qb = ⟨(i (0 : Fin 2)).val / 256, by have : (i (0 : Fin 2)).val < 2048 := (i (0 : Fin 2)).isLt; omega⟩ := by
      apply Fin.ext; show qb.val = (i (0 : Fin 2)).val / 256; omega
    have e : partialOf x wq wo k v i = projV (ctxOf x wq k v qb) wo j := by rw [partialOf, ← hh]
    rw [e, hij, View.write_emb_of_mem _ _ (Finset.mem_univ j)]
    rfl

end Values

/-! ## The run -/

section Run
variable (x : Mat F) (wq wo : FVec F S1024x1024 .f32) (k v : FVec F S8x2048x128 .f32) (c : Dev nD)

def inputs : sProp 𝕄 :=
  iprop((((c : Thread nD τ).loc cc0_stg0_0) ↦[Finset.univ]{fullShare} x) ∗ (((c : Thread nD τ).loc cc0_stg1_0) ↦[Finset.univ]{fullShare} wq)
    ∗ (((c : Thread nD τ).loc cc0_stg2_0) ↦[Finset.univ]{fullShare} k) ∗ (((c : Thread nD τ).loc cc0_stg3_0) ↦[Finset.univ]{fullShare} v)
    ∗ (((c : Thread nD τ).loc cc0_stg4_0) ↦[Finset.univ]{fullShare} wo))
/-- The context buffer with the heads below `n` of row block `qb`, and the result's with the row blocks below `n`. -/
def ctxAt (qb : Fin 8) (n : ℕ) : sProp 𝕄 :=
  iprop(∃ g : FVec F S256x1024 .f32, ⌜∀ i : S256x1024.Idx, (i (1 : Fin 2)).val < 128 * n → g i = ctxOf x wq k v qb i⌝ ∗ (((c : Thread nD τ).loc cc0_scratch0) ↦[Finset.univ]{fullShare} g))
def partAt (n : ℕ) : sProp 𝕄 :=
  iprop(∃ o : Mat F, ⌜∀ i : S2048x1024.Idx, (i (0 : Fin 2)).val < 256 * n → o i = partialOf x wq wo k v i⌝ ∗ (((c : Thread nD τ).loc cc0_stg5_0) ↦[Finset.univ]{fullShare} o))

theorem inputs_open : inputs x wq wo k v c
    ⊢ iprop((((c : Thread nD τ).loc cc0_stg0_0) ↦[Finset.univ]{fullShare} x) ∗ (((c : Thread nD τ).loc cc0_stg1_0) ↦[Finset.univ]{fullShare} wq)
      ∗ (((c : Thread nD τ).loc cc0_stg2_0) ↦[Finset.univ]{fullShare} k) ∗ (((c : Thread nD τ).loc cc0_stg3_0) ↦[Finset.univ]{fullShare} v)
      ∗ (((c : Thread nD τ).loc cc0_stg4_0) ↦[Finset.univ]{fullShare} wo)) := Entails.of_eq rfl
theorem ctxAt_open (qb : Fin 8) (n : ℕ) : ctxAt x wq k v c qb n
    ⊢ iprop(∃ g : FVec F S256x1024 .f32, ⌜∀ i : S256x1024.Idx, (i (1 : Fin 2)).val < 128 * n → g i = ctxOf x wq k v qb i⌝ ∗ (((c : Thread nD τ).loc cc0_scratch0) ↦[Finset.univ]{fullShare} g)) :=
  Entails.of_eq rfl
theorem partAt_open (n : ℕ) : partAt x wq wo k v c n
    ⊢ iprop(∃ o : Mat F, ⌜∀ i : S2048x1024.Idx, (i (0 : Fin 2)).val < 256 * n → o i = partialOf x wq wo k v i⌝ ∗ (((c : Thread nD τ).loc cc0_stg5_0) ↦[Finset.univ]{fullShare} o)) :=
  Entails.of_eq rfl

abbrev wpA (q : PT F) (Q : PUnit → sProp 𝕄) : sProp 𝕄 := wp frame (wpE (defs₀ (F := F)) 𝒱₀ (c : Thread nD τ) none) Set.univ q Q

theorem wp_head (qb h : Fin 8) (n m : ℕ) (hn : h.val = n) (hm : h.val + 1 = m) (next : PT F) (Q : PUnit → sProp 𝕄) :
    iprop(inputs x wq wo k v c ∗ ctxAt x wq k v c qb n)
      ⊢ iprop((inputs x wq wo k v c ∗ ctxAt x wq k v c qb m -∗ wpA c next Q)
        -∗ wpA c (headP qb h (queryV (rowsOf x qb) wq) next) Q) := by
  subst hn hm
  unfold inputs headP
  have hk : ((kM.access (headR h)) : View sig .tc _ _ .f32).set ⊆ Finset.univ := Finset.subset_univ _
  have hv : ((vM.access (headR h)) : View sig .tc _ _ .f32).set ⊆ Finset.univ := Finset.subset_univ _
  have hc : ((cxM.access (colsR h)) : View sig .tc _ _ .f32).set ⊆ Finset.univ := Finset.subset_univ _
  have hw : ((cxM.access (colsR h)) : View sig .tc _ _ .f32).setOn Finset.univ ⊆ Finset.univ := Finset.subset_univ _
  iintro ⟨⟨Hx, Hq, Hk, Hv, Ho⟩, Hc⟩ Hn
  ihave Hc := (ctxAt_open x wq k v c qb h.val) $$ Hc
  icases Hc with ⟨%g, %hg, Hc⟩
  iapply (wp_load_rect 𝒱₀ (c : Thread nD τ) none Set.univ hk) $$ Hk
  iintro Hk
  iapply (wp_load_rect 𝒱₀ (c : Thread nD τ) none Set.univ hv) $$ Hv
  iintro Hv
  iapply (wp_load_rect 𝒱₀ (c : Thread nD τ) none Set.univ hc) $$ Hc
  iintro Hc
  iapply (wp_store 𝒱₀ (c : Thread nD τ) none Set.univ hw) $$ Hc
  iintro Hc
  iapply Hn
  isplitr [Hc]
  · isplitl [Hx]; · iexact Hx
    isplitl [Hq]; · iexact Hq
    isplitl [Hk]; · iexact Hk
    isplitl [Hv]; · iexact Hv
    iexact Ho
  unfold ctxAt
  iexists (putHead x wq k v qb h g)
  isplitr
  · ipureintro; exact putHead_spec x wq k v qb h g hg
  iexact Hc

theorem wp_proj (qb : Fin 8) (next : PT F) (Q : PUnit → sProp 𝕄) :
    iprop(inputs x wq wo k v c ∗ ctxAt x wq k v c qb 8 ∗ partAt x wq wo k v c qb.val)
      ⊢ iprop((inputs x wq wo k v c ∗ (∃ g : FVec F S256x1024 .f32, ((c : Thread nD τ).loc cc0_scratch0) ↦[Finset.univ]{fullShare} g) ∗ partAt x wq wo k v c (qb.val + 1) -∗ wpA c next Q)
        -∗ wpA c (projP qb next) Q) := by
  unfold inputs projP
  have hc : ((cxM.access ctxR) : View sig .tc _ _ .f32).set ⊆ Finset.univ := Finset.subset_univ _
  have hwo : ((woM.access weightR) : View sig .tc _ _ .f32).set ⊆ Finset.univ := Finset.subset_univ _
  have hp : ((paM.access (rowsR qb)) : View sig .tc _ _ .f32).set ⊆ Finset.univ := Finset.subset_univ _
  have hw : ((paM.access (rowsR qb)) : View sig .tc _ _ .f32).setOn Finset.univ ⊆ Finset.univ := Finset.subset_univ _
  have hz : (![0, 0] : Fin 2 → ℕ) = fun _ => 0 := by funext a; fin_cases a <;> rfl
  iintro ⟨⟨Hx, Hq, Hk, Hv, Ho⟩, Hc, Hp⟩ Hn
  ihave Hc := (ctxAt_open x wq k v c qb 8) $$ Hc
  ihave Hp := (partAt_open x wq wo k v c qb.val) $$ Hp
  icases Hc with ⟨%g, %hg, Hc⟩
  icases Hp with ⟨%o, %ho, Hp⟩
  have e : g = ctxOf x wq k v qb := funext fun i => hg i (by have : (i (1 : Fin 2)).val < 1024 := (i (1 : Fin 2)).isLt; omega)
  subst e
  iapply (wp_load_rect 𝒱₀ (c : Thread nD τ) none Set.univ hc) $$ Hc
  iintro Hc
  iapply (wp_load_rect 𝒱₀ (c : Thread nD τ) none Set.univ hwo) $$ Ho
  iintro Ho
  iapply (wp_load_rect 𝒱₀ (c : Thread nD τ) none Set.univ hp) $$ Hp
  iintro Hp
  iapply (wp_store 𝒱₀ (c : Thread nD τ) none Set.univ hw) $$ Hp
  iintro Hp
  iapply Hn
  isplitl [Hx Hq Hk Hv Ho]
  · isplitl [Hx]; · iexact Hx
    isplitl [Hq]; · iexact Hq
    isplitl [Hk]; · iexact Hk
    isplitl [Hv]; · iexact Hv
    iexact Ho
  isplitl [Hc]; · iexists _; iexact Hc
  unfold partAt
  iexists (putRows x wq wo k v qb o)
  isplitr
  · ipureintro; exact putRows_spec x wq wo k v qb o ho
  have e1 : (cxM.access ctxR).read (Elt F) (ctxOf x wq k v qb) = ctxOf x wq k v qb := Memref.read_access_unit_zero (Elt F) cc0_scratch0 hz _ _
  have e2 : (woM.access weightR).read (Elt F) wo = wo := Memref.read_access_unit_zero (Elt F) cc0_stg4_0 hz _ _
  rw [e1, e2]
  iexact Hp

theorem wp_block (qb : Fin 8) (n m : ℕ) (hn : qb.val = n) (hm : qb.val + 1 = m) (next : PT F) (Q : PUnit → sProp 𝕄) :
    iprop(inputs x wq wo k v c ∗ (∃ g : FVec F S256x1024 .f32, ((c : Thread nD τ).loc cc0_scratch0) ↦[Finset.univ]{fullShare} g) ∗ partAt x wq wo k v c n)
      ⊢ iprop((inputs x wq wo k v c ∗ (∃ g : FVec F S256x1024 .f32, ((c : Thread nD τ).loc cc0_scratch0) ↦[Finset.univ]{fullShare} g) ∗ partAt x wq wo k v c m -∗ wpA c next Q)
        -∗ wpA c (blockP qb next) Q) := by
  subst hn hm
  unfold blockP
  have hx : ((xM.access (rowsR qb)) : View sig .tc _ _ .f32).set ⊆ Finset.univ := Finset.subset_univ _
  have hwq : ((wqM.access weightR) : View sig .tc _ _ .f32).set ⊆ Finset.univ := Finset.subset_univ _
  have hz : (![0, 0] : Fin 2 → ℕ) = fun _ => 0 := by funext a; fin_cases a <;> rfl
  have e1 : (wqM.access weightR).read (Elt F) wq = wq := Memref.read_access_unit_zero (Elt F) cc0_stg1_0 hz _ _
  iintro ⟨Hin, ⟨%g, Hc⟩, Hp⟩ Hn
  ihave Hin := (inputs_open x wq wo k v c) $$ Hin
  icases Hin with ⟨Hx, Hq, Hk, Hv, Ho⟩
  iapply (wp_load_rect 𝒱₀ (c : Thread nD τ) none Set.univ hx) $$ Hx
  iintro Hx
  iapply (wp_load_rect 𝒱₀ (c : Thread nD τ) none Set.univ hwq) $$ Hq
  iintro Hq
  rw [e1]
  ihave H : iprop(inputs x wq wo k v c ∗ ctxAt x wq k v c qb 0) $$ [Hx Hq Hk Hv Ho Hc]
  · unfold inputs ctxAt
    isplitr [Hc]
    · isplitl [Hx]; · iexact Hx
      isplitl [Hq]; · iexact Hq
      isplitl [Hk]; · iexact Hk
      isplitl [Hv]; · iexact Hv
      iexact Ho
    iexists g
    isplitr; · ipureintro; intro i hi; exact absurd hi (by show ¬ _ < _ * 0; omega)
    iexact Hc
  iapply (wp_head x wq wo k v c qb 0 0 1 rfl rfl) $$ H; iintro H
  iapply (wp_head x wq wo k v c qb 1 1 2 rfl rfl) $$ H; iintro H
  iapply (wp_head x wq wo k v c qb 2 2 3 rfl rfl) $$ H; iintro H
  iapply (wp_head x wq wo k v c qb 3 3 4 rfl rfl) $$ H; iintro H
  iapply (wp_head x wq wo k v c qb 4 4 5 rfl rfl) $$ H; iintro H
  iapply (wp_head x wq wo k v c qb 5 5 6 rfl rfl) $$ H; iintro H
  iapply (wp_head x wq wo k v c qb 6 6 7 rfl rfl) $$ H; iintro H
  iapply (wp_head x wq wo k v c qb 7 7 8 rfl rfl) $$ H; iintro H
  icases H with ⟨Hin, Hc⟩
  iapply (wp_proj x wq wo k v c qb) $$ [Hin Hc Hp]
  · isplitl [Hin]; · iexact Hin
    isplitl [Hc]; · iexact Hc
    iexact Hp
  iexact Hn

/-- What the attention body is run with, and what it leaves. -/
theorem attnRun (Q : PUnit → sProp 𝕄) :
    iprop((inputs x wq wo k v c ∗ (∃ g : FVec F S256x1024 .f32, ((c : Thread nD τ).loc cc0_scratch0) ↦[Finset.univ]{fullShare} g)
        ∗ (∃ o : Mat F, ((c : Thread nD τ).loc cc0_stg5_0) ↦[Finset.univ]{fullShare} o))
      ∗ (inputs x wq wo k v c ∗ (∃ g : FVec F S256x1024 .f32, ((c : Thread nD τ).loc cc0_scratch0) ↦[Finset.univ]{fullShare} g)
        ∗ (((c : Thread nD τ).loc cc0_stg5_0) ↦[Finset.univ]{fullShare} partialOf x wq wo k v) -∗ Q ⟨⟩))
      ⊢ wpA c (cc0__attn_body (F := F) xM (Memref.isWhole_whole _) wqM (Memref.isWhole_whole _) kM (Memref.isWhole_whole _) vM (Memref.isWhole_whole _)
          woM (Memref.isWhole_whole _) paM (Memref.isWhole_whole _) cxM (Memref.isWhole_whole _)) Q := by
  rw [attn_eq]
  unfold attnP
  iintro ⟨⟨Hin, Hc, ⟨%o, Hp⟩⟩, HQ⟩
  ihave H : iprop(inputs x wq wo k v c ∗ (∃ g : FVec F S256x1024 .f32, ((c : Thread nD τ).loc cc0_scratch0) ↦[Finset.univ]{fullShare} g) ∗ partAt x wq wo k v c 0) $$ [Hin Hc Hp]
  · isplitl [Hin]; · iexact Hin
    isplitl [Hc]; · iexact Hc
    unfold partAt
    iexists o
    isplitr; · ipureintro; intro i hi; exact absurd hi (by show ¬ _ < _ * 0; omega)
    iexact Hp
  iapply (wp_block x wq wo k v c 0 0 1 rfl rfl) $$ H; iintro H
  iapply (wp_block x wq wo k v c 1 1 2 rfl rfl) $$ H; iintro H
  iapply (wp_block x wq wo k v c 2 2 3 rfl rfl) $$ H; iintro H
  iapply (wp_block x wq wo k v c 3 3 4 rfl rfl) $$ H; iintro H
  iapply (wp_block x wq wo k v c 4 4 5 rfl rfl) $$ H; iintro H
  iapply (wp_block x wq wo k v c 5 5 6 rfl rfl) $$ H; iintro H
  iapply (wp_block x wq wo k v c 6 6 7 rfl rfl) $$ H; iintro H
  iapply (wp_block x wq wo k v c 7 7 8 rfl rfl) $$ H; iintro H
  icases H with ⟨Hin, Hc, Hp⟩
  ihave Hp := (partAt_open x wq wo k v c 8) $$ Hp
  icases Hp with ⟨%o', %ho, Hp⟩
  have e : o' = partialOf x wq wo k v := funext fun i => ho i (by have : (i (0 : Fin 2)).val < 2048 := (i (0 : Fin 2)).isLt; show _ < 256 * (7 + 1); omega)
  subst e
  unfold wpA
  rw [wp_ret]
  imodintro
  iapply HQ
  isplitl [Hin]; · iexact Hin
  isplitl [Hc]; · iexact Hc
  iexact Hp

end Run

end Cert.KernelIdealProof
-- ==== Proof.KernelIdeal.Ring.lean ====
/- The ring kernel on one device, from its first signal to its last wait: the result buffer ends up
holding the total of all devices' partial results. -/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores and offsets as the program computes them -/

theorem bar_sem : (SemArray.scalar (sig.barrier 0 rfl) : Sems sig S_).sem = barrier0 := rfl
theorem semA0 : ((cc1_scratch1.slice (Rect.unit (s := S3) ![0] S1.size inb_S3_S1_0)).squeeze S_ squeezes_S1_S_).sem = sS 0 := rfl
theorem semA1 : ((cc1_scratch1.slice (Rect.unit (s := S3) ![1] S1.size inb_S3_S1_1)).squeeze S_ squeezes_S1_S_).sem = sS 1 := rfl
theorem semA2 : ((cc1_scratch1.slice (Rect.unit (s := S3) ![2] S1.size inb_S3_S1_2)).squeeze S_ squeezes_S1_S_).sem = sS 2 := rfl
theorem semB0 : ((cc1_scratch2.slice (Rect.unit (s := S3) ![0] S1.size inb_S3_S1_0)).squeeze S_ squeezes_S1_S_).sem = rS 0 := rfl
theorem semB1 : ((cc1_scratch2.slice (Rect.unit (s := S3) ![1] S1.size inb_S3_S1_1)).squeeze S_ squeezes_S1_S_).sem = rS 1 := rfl
theorem semB2 : ((cc1_scratch2.slice (Rect.unit (s := S3) ![2] S1.size inb_S3_S1_2)).squeeze S_ squeezes_S1_S_).sem = rS 2 := rfl
theorem semC0 : ((cc1_scratch3.slice (Rect.unit (s := S3) ![0] S1.size inb_S3_S1_0)).squeeze S_ squeezes_S1_S_).sem = sS 3 := rfl
theorem semC1 : ((cc1_scratch3.slice (Rect.unit (s := S3) ![1] S1.size inb_S3_S1_1)).squeeze S_ squeezes_S1_S_).sem = sS 4 := rfl
theorem semC2 : ((cc1_scratch3.slice (Rect.unit (s := S3) ![2] S1.size inb_S3_S1_2)).squeeze S_ squeezes_S1_S_).sem = sS 5 := rfl
theorem semD0 : ((cc1_scratch4.slice (Rect.unit (s := S3) ![0] S1.size inb_S3_S1_0)).squeeze S_ squeezes_S1_S_).sem = rS 3 := rfl
theorem semD1 : ((cc1_scratch4.slice (Rect.unit (s := S3) ![1] S1.size inb_S3_S1_1)).squeeze S_ squeezes_S1_S_).sem = rS 4 := rfl
theorem semD2 : ((cc1_scratch4.slice (Rect.unit (s := S3) ![2] S1.size inb_S3_S1_2)).squeeze S_ squeezes_S1_S_).sem = rS 5 := rfl

theorem off1_0 (c : Dev nD) : k1_off1 c 0#32 = ![512 * c.val, 0] := by
  refine (k1_off1_eq c 0).trans ?_; congr 2; have := c.isLt; simp only [nD] at this; show (c.val + 4 - 0) % 4 = c.val; omega
theorem off1_1 (c : Dev nD) : k1_off1 c 1#32 = ![512 * (sh c 3).val, 0] := by
  refine (k1_off1_eq c 1).trans ?_; congr 2
theorem off1_2 (c : Dev nD) : k1_off1 c 2#32 = ![512 * (sh c 2).val, 0] := by
  refine (k1_off1_eq c 2).trans ?_; congr 2
theorem off2_0 (c : Dev nD) : k1_off2 c 0#32 = ![512 * (sh c 3).val, 0] := by
  refine (k1_off2_eq c 0).trans ?_; congr 2
theorem off2_1 (c : Dev nD) : k1_off2 c 1#32 = ![512 * (sh c 2).val, 0] := by
  refine (k1_off2_eq c 1).trans ?_; congr 2
theorem off2_2 (c : Dev nD) : k1_off2 c 2#32 = ![512 * (sh c 1).val, 0] := by
  refine (k1_off2_eq c 2).trans ?_; congr 2
theorem off3_0 (c : Dev nD) : k1_off3 c 0#32 = ![512 * (sh c 1).val, 0] := by
  refine (k1_off3_eq c 0).trans ?_; congr 2; show (c.val + 5 - 0) % 4 = (c.val + 1) % 4; omega
theorem off3_1 (c : Dev nD) : k1_off3 c 1#32 = ![512 * c.val, 0] := by
  refine (k1_off3_eq c 1).trans ?_; congr 2; have := c.isLt; simp only [nD] at this; show (c.val + 5 - 1) % 4 = c.val; omega
theorem off3_2 (c : Dev nD) : k1_off3 c 2#32 = ![512 * (sh c 3).val, 0] := by
  refine (k1_off3_eq c 2).trans ?_; congr 2

/-! ## The buffers in pieces -/

theorem chunk_univ : (Finset.univ : Finset (Dev nD)).biUnion chunkSet = Finset.univ := by
  ext i
  have h0 : (i (0 : Fin 2)).val < 2048 := (i (0 : Fin 2)).isLt
  simp only [Finset.mem_biUnion, Finset.mem_univ, true_and, iff_true]
  exact ⟨⟨(i (0 : Fin 2)).val / 512, by show _ < 4; omega⟩, by unfold chunkSet; rw [Finset.mem_filter]; exact ⟨Finset.mem_univ _, rfl⟩⟩
theorem chunk_disj (a b : Dev nD) (h : a ≠ b) : Disjoint (chunkSet a) (chunkSet b) := by
  rw [Finset.disjoint_left]
  intro i ha hb
  unfold chunkSet at ha hb
  rw [Finset.mem_filter] at ha hb
  exact h (Fin.ext (ha.2.symm.trans hb.2))
theorem slot_univ : (Finset.univ : Finset (Fin 3)).biUnion slotSet = Finset.univ := by
  ext i
  simp only [Finset.mem_biUnion, Finset.mem_univ, true_and, iff_true]
  exact ⟨i (0 : Fin 3), by unfold slotSet; rw [Finset.mem_filter]; exact ⟨Finset.mem_univ _, rfl⟩⟩
theorem slot_disj (a b : Fin 3) (h : a ≠ b) : Disjoint (slotSet a) (slotSet b) := by
  rw [Finset.disjoint_left]
  intro i ha hb
  unfold slotSet at ha hb
  rw [Finset.mem_filter] at ha hb
  exact h (Fin.ext (ha.2.symm.trans hb.2))

/-- The four devices, counted from any one. -/
theorem four_devs : ∀ c : Dev nD, (Finset.univ : Finset (Dev nD)) = {c, sh c 1, sh c 2, sh c 3} ∧ c ∉ ({sh c 1, sh c 2, sh c 3} : Finset (Dev nD))
    ∧ sh c 1 ∉ ({sh c 2, sh c 3} : Finset (Dev nD)) ∧ sh c 2 ∉ ({sh c 3} : Finset (Dev nD)) := by decide

/-- The result buffer is its four chunks. -/
theorem out_split (c : Dev nD) (g : Mat F) :
    (((c : Thread nD τ).loc cc1_stg1_0) ↦[Finset.univ]{fullShare} g : sProp 𝕄)
      = iprop(outP c c g ∗ outP c (sh c 1) g ∗ outP c (sh c 2) g ∗ outP c (sh c 3) g) := by
  have h := pointsTo_biUnion (Val := Elt F) (Ix := Unit) (Name := ℕ) (U := UU) (Lvl := ℕ) (ℓ := (c : Thread nD τ).loc cc1_stg1_0) (q := fullShare) (f := g) (Finset.univ : Finset (Dev nD)) chunkSet
    fun a _ b _ h => chunk_disj a b h
  rw [chunk_univ] at h
  refine h.trans ?_
  obtain ⟨e, h1, h2, h3⟩ := four_devs c
  rw [e, bigSep_insert h1, bigSep_insert h2, bigSep_insert h3, bigSep_singleton]
  rfl
theorem rbuf_split (c : Dev nD) (g : FVec F S3x512x1024 .f32) :
    (((c : Thread nD τ).loc cc1_scratch0) ↦[Finset.univ]{fullShare} g : sProp 𝕄)
      = iprop(slotP c 0 g ∗ slotP c 1 g ∗ slotP c 2 g) := by
  have h := pointsTo_biUnion (Val := Elt F) (Ix := Unit) (Name := ℕ) (U := UU) (Lvl := ℕ) (ℓ := (c : Thread nD τ).loc cc1_scratch0) (q := fullShare) (f := g) (Finset.univ : Finset (Fin 3)) slotSet
    fun a _ b _ h => slot_disj a b h
  rw [slot_univ] at h
  refine h.trans ?_
  rw [bigSep_univ_eq_bigSepL [0, 1, 2] (by decide) (by decide), bigSepL_cons_cons, bigSepL_cons_cons, bigSepL_singleton]
  rfl
theorem rbuf_join (c : Dev nD) (g0 g1 g2 : FVec F S3x512x1024 .f32) :
    iprop(slotP c 0 g0 ∗ slotP c 1 g1 ∗ slotP c 2 g2)
      ⊢ iprop(∃ g, (((c : Thread nD τ).loc cc1_scratch0) ↦[Finset.univ]{fullShare} g : sProp 𝕄)) := by
  have h := pointsTo_biUnion_join (Val := Elt F) (Ix := Unit) (Name := ℕ) (U := UU) (Lvl := ℕ) (ℓ := (c : Thread nD τ).loc cc1_scratch0) (q := fullShare) Finset.univ slotSet
    (fun s : Fin 3 => match s with | 0 => g0 | 1 => g1 | 2 => g2) g0 fun a _ b _ h => slot_disj a b h
  rw [slot_univ, bigSep_univ_eq_bigSepL [0, 1, 2] (by decide) (by decide), bigSepL_cons_cons, bigSepL_cons_cons, bigSepL_singleton] at h
  unfold slotP
  iintro H
  ihave H2 := h $$ H
  icases H2 with ⟨%g, -, H⟩
  iexists g; iexact H

section Facts
variable (p : Dev nD → Mat F) (c : Dev nD)

theorem e11 : sh (sh c 1) 1 = sh c 2 := sh_sh c 1 1
theorem e12 : sh (sh c 1) 2 = sh c 3 := sh_sh c 1 2
theorem e13 : sh (sh c 1) 3 = c := (sh_sh c 1 3).trans (sh_back c)
theorem e31 : sh (sh c 3) 1 = c := (sh_sh c 3 1).trans (sh_back c)

theorem slotIn_at (s : Fin 3) (j : Dev nD) (h : sh c (7 - s.val) = j) :
    slotIn p c s ⊢ iprop(∃ g, ⌜(slotM s).view.read (Elt F) g = (chunkM j).view.read (Elt F) (acc p s.val (sh c 3))⌝ ∗ slotP (F := F) c s g) := by
  subst h; unfold slotIn; iintro H; iexact H

/-- After three sums the chunk of the right neighbour's number is finished. -/
theorem finished : outP c (sh c 1) (acc p 3 c) = outP c (sh c 1) (total p) := by
  unfold outP
  refine pointsTo_congr fun i hi => ?_
  rw [total_of_mem p hi, e13]

theorem hX0 : iprop((slotIn p (sh c 1) 0 ∗ emp) ∗ outP c c (acc p 0 c)) ⊢ recvPay p (sh c 1) 0 := by
  show _ ⊢ iprop(slotIn p (sh c 1) 0 ∗ outE (F := F) (sh (sh c 1) 3) (sh (sh c 1) 3))
  rw [e13]
  iintro ⟨⟨H, -⟩, Ho⟩
  isplitl [H]; · iexact H
  unfold outE; iexists _; iexact Ho
theorem hX1 : iprop((slotIn p (sh c 1) 1 ∗ outE (F := F) (sh c 3) (sh c 3)) ∗ outP c (sh c 3) (acc p 1 c)) ⊢ recvPay p (sh c 1) 1 := by
  show _ ⊢ iprop(slotIn p (sh c 1) 1 ∗ outE (F := F) (sh (sh c 1) 3) (sh (sh c 1) 2) ∗ outE (F := F) (sh (sh c 1) 2) (sh (sh c 1) 2))
  rw [e13, e12]
  iintro ⟨⟨H, HX⟩, Ho⟩
  isplitl [H]; · iexact H
  isplitl [Ho]; · unfold outE; iexists _; iexact Ho
  iexact HX
theorem hX2 : iprop((slotIn p (sh c 1) 2 ∗ outE (F := F) (sh c 3) (sh c 2) ∗ outE (F := F) (sh c 2) (sh c 2)) ∗ outP c (sh c 2) (acc p 2 c)) ⊢ recvPay p (sh c 1) 2 := by
  show _ ⊢ iprop(slotIn p (sh c 1) 2 ∗ outE (F := F) (sh (sh c 1) 3) (sh (sh c 1) 1) ∗ outE (F := F) (sh (sh c 1) 2) (sh (sh c 1) 1) ∗ outE (F := F) (sh (sh c 1) 1) (sh (sh c 1) 1))
  rw [e13, e12, e11]
  iintro ⟨⟨H, HX⟩, Ho⟩
  isplitl [H]; · iexact H
  isplitl [Ho]; · unfold outE; iexists _; iexact Ho
  iexact HX
theorem hX3 : iprop(outP (sh c 1) (sh c 1) (total p) ∗ outE (F := F) (sh c 3) (sh c 1) ∗ outE (F := F) (sh c 2) (sh c 1)) ⊢ recvPay p (sh c 1) 3 := by
  show _ ⊢ iprop(outP (sh c 1) (sh c 1) (total p) ∗ outE (F := F) (sh (sh c 1) 2) (sh c 1) ∗ outE (F := F) (sh (sh c 1) 1) (sh c 1))
  rw [e12, e11]
theorem hX4 : iprop(outP (sh c 1) c (total p) ∗ outE (F := F) (sh c 2) c) ⊢ recvPay p (sh c 1) 4 := by
  show _ ⊢ iprop(outP (sh c 1) (sh (sh c 1) 3) (total p) ∗ outE (F := F) (sh (sh c 1) 1) (sh (sh c 1) 3))
  rw [e13, e11]
theorem hX5 : iprop(outP (sh c 1) (sh c 3) (total p) ∗ emp) ⊢ recvPay p (sh c 1) 5 := by
  show _ ⊢ outP (sh c 1) (sh (sh c 1) 2) (total p)
  rw [e12]; iintro ⟨H, -⟩; iexact H

end Facts

/-! ## The run -/

section Run
variable (p : Dev nD → Mat F) (κ : GSem nD τ sig → ℕ)

theorem hz2 : (![0, 0] : Fin 2 → ℕ) = fun _ => 0 := by funext a; revert a; decide

/-- At the start: the records, the levels, the barrier's and the six steps' ghost state, and the buffers. -/
def runPre (c : Dev nD) : sProp 𝕄 :=
  iprop(recs p κ ∗ levAts L lv
    ∗ (atPos ER (barCell c) 0 ∅ 0 ∗ cred (tallyAt (barCell c) () 2) ∗ dutyTok ER (barCell (sh c 3)) 0 true ∗ dutyTok ER (barCell (sh c 1)) 0 false)
    ∗ (gStart 0 c ∗ gStart 1 c ∗ gStart 2 c ∗ gStart 3 c ∗ gStart 4 c ∗ gStart 5 c)
    ∗ (reached ER (rCell 0 c) 0 ∗ reached ER (rCell 1 c) 0 ∗ reached ER (rCell 2 c) 0
      ∗ reached ER (rCell 3 c) 0 ∗ reached ER (rCell 4 c) 0 ∗ reached ER (rCell 5 c) 0)
    ∗ (((c : Thread nD τ).loc cc1_stg0_0) ↦[Finset.univ]{fullShare} (p c))
    ∗ (∃ g : Mat F, (((c : Thread nD τ).loc cc1_stg1_0) ↦[Finset.univ]{fullShare} g))
    ∗ (∃ g : FVec F S3x512x1024 .f32, (((c : Thread nD τ).loc cc1_scratch0) ↦[Finset.univ]{fullShare} g))
    ∗ owesE c (O₀ c))

/-- At the end: every counter at zero again, nothing owed, the result buffer at the total. -/
def runPost (c : Dev nD) : sProp 𝕄 :=
  iprop(semVal (barCell c) 0
    ∗ ((semVal (sCell 0 c) 0 ∗ semVal (rCell 0 c) 0) ∗ (semVal (sCell 1 c) 0 ∗ semVal (rCell 1 c) 0) ∗ (semVal (sCell 2 c) 0 ∗ semVal (rCell 2 c) 0)
      ∗ (semVal (sCell 3 c) 0 ∗ semVal (rCell 3 c) 0) ∗ (semVal (sCell 4 c) 0 ∗ semVal (rCell 4 c) 0) ∗ (semVal (sCell 5 c) 0 ∗ semVal (rCell 5 c) 0))
    ∗ (((c : Thread nD τ).loc cc1_stg0_0) ↦[Finset.univ]{fullShare} (p c))
    ∗ (((c : Thread nD τ).loc cc1_stg1_0) ↦[Finset.univ]{fullShare} (total p))
    ∗ (∃ g : FVec F S3x512x1024 .f32, (((c : Thread nD τ).loc cc1_scratch0) ↦[Finset.univ]{fullShare} g))
    ∗ owesE c 0)

/-- The two cells of a step, done with, are closed. -/
theorem close_step (c : Dev nD) (k : ℕ) : iprop(recs p κ ∗ gDone k c) ⊢ |={Set.univ}=> iprop(semVal (sCell k c) 0 ∗ semVal (rCell k c) 0 : sProp 𝕄) := by
  unfold gDone
  iintro ⟨#HR, Hs, Hr⟩
  imod (Rounds.cell_close ER (ringRd p) (Set.mem_univ (κ (sCell k c))) (fun h => h) (R := 1) (duties_later p (sCell k c))) $$ [Hs] with Hs
  · isplitr; · iapply (inv_at p κ (s_mem k c)); iexact HR
    iexact Hs
  imod (Rounds.cell_close ER (ringRd p) (Set.mem_univ (κ (rCell k c))) (fun h => h) (R := 1) (duties_later p (rCell k c))) $$ [Hr] with Hr
  · isplitr; · iapply (inv_at p κ (r_mem k c)); iexact HR
    iexact Hr
  imodintro
  isplitl [Hs] <;> iassumption

/-- The barrier: both neighbours are told, and both are waited for. The right one's receive buffer comes with it. -/
theorem wp_barrier (c d1 d2 : Dev nD) (h1 : d1 = sh c 3) (h2 : d2 = sh c 1) {α : Type} {Q : α → sProp 𝕄} {k : PUnit → Prog (TpuEff nD τ sig (Elt F) Λ₀ .tc) α} :
    iprop(recs p κ ∗ levAts L lv
      ∗ (atPos ER (barCell c) 0 ∅ 0 ∗ cred (tallyAt (barCell c) () 2) ∗ dutyTok ER (barCell (sh c 3)) 0 true ∗ dutyTok ER (barCell (sh c 1)) 0 false)
      ∗ (reached ER (rCell 0 c) 0 ∗ reached ER (rCell 1 c) 0 ∗ reached ER (rCell 2 c) 0
        ∗ reached ER (rCell 3 c) 0 ∗ reached ER (rCell 4 c) 0 ∗ reached ER (rCell 5 c) 0)
      ∗ (slotE (F := F) c 0 ∗ slotE (F := F) c 1 ∗ slotE (F := F) c 2) ∗ owesE c (O₀ c))
    ⊢ iprop(((atPos ER (barCell c) 1 ∅ 0 ∗ readyPay (F := F) c ∗ owesE c (Or c 6)) -∗ wp frame (wpE (defs₀ (F := F)) 𝒱₀ (c : Thread nD τ) none) Set.univ (k ⟨⟩) Q)
      -∗ wp frame (wpE (defs₀ (F := F)) 𝒱₀ (c : Thread nD τ) none) Set.univ
        (.op (.semSignal (Dev.tc d1) barrier0 1) fun _ => .op (.semSignal (Dev.tc d2) barrier0 1) fun _ => .op (.semWait barrier0 2) k) Q) := by
  subst h1; subst h2
  unfold owesE
  iintro ⟨#HR, #Hlev, ⟨Hat, Hc, Ht1, Ht2⟩, #Hreach, Hslots, ⟨%W, HO⟩⟩ Hk
  unfold O₀
  iapply (Rounds.wp_signal 𝒱₀ ER (ringRd p) (c : Thread nD τ) none (dst := (sh c 3 : Thread nD τ)) (κ := κ (barCell (sh c 3)))
      (d := true) (by rw [duties_bar]; exact Finset.mem_univ _) (amount_bar p (sh c 3) true) () (O₁ c) rfl)
    $$ [HO Ht1 Hslots]
  · isplitr; · iapply (inv_at p κ (bar_mem (sh c 3))); iexact HR
    isplitl [HO]; · iexact HO
    isplitl [Ht1]; · iexact Ht1
    isplitl [Hslots]
    · rw [payload_bar_true]; unfold readyPay; rw [e31]
      isplitl [Hslots]; · iexact Hslots
      iexact Hreach
    · iapply (reached_at p κ (sh c 3)); iexact HR
  iintro HO
  unfold O₁
  iapply (Rounds.wp_signal 𝒱₀ ER (ringRd p) (c : Thread nD τ) none (dst := (sh c 1 : Thread nD τ)) (κ := κ (barCell (sh c 1)))
      (d := false) (by rw [duties_bar]; exact Finset.mem_univ _) (amount_bar p (sh c 1) false) () (Or c 6) rfl)
    $$ [HO Ht2]
  · isplitr; · iapply (inv_at p κ (bar_mem (sh c 1))); iexact HR
    isplitl [HO]; · iexact HO
    isplitl [Ht2]; · iexact Ht2
    isplitr
    · rw [payload_bar_false]; iempintro
    · iapply (reached_at p κ (sh c 1)); iexact HR
  iintro HO
  iapply (Rounds.wp_wait_rest_token 𝒱₀ ER (ringRd p) (c : Thread nD τ) none (κ := κ (barCell c))
      (wpE_semWait_eq 𝒱₀ (c : Thread nD τ) none Set.univ) (Set.mem_univ _) () (O := Or c 6) (W := W) (R := 0) (m := 0) (T := ∅)
      (by rw [expect_bar])) $$ [Hc HO Hat]
  · isplitr; · iapply (inv_at p κ (bar_mem c)); iexact HR
    isplitl [Hc]; · iexact Hc
    isplitl [HO]; · iexact HO
    isplitr; · iapply (mayWait_Or c (.reg barrier0) 6 le_rfl (by show (1 : ℕ) < 2; decide)); iexact Hlev
    iexact Hat
  iintro ⟨HO, Hat, -, Hpay⟩
  ihave Hp2 := (Entails.of_eq (rest_bar p c)) $$ Hpay
  icases Hp2 with ⟨-, Hp⟩
  iapply Hk
  isplitl [Hat]; · iexact Hat
  isplitl [Hp]; · iexact Hp
  iexists _; iexact HO

/-- The whole kernel on device `c`. -/
theorem ringRun (c : Dev nD) (Q : PUnit → sProp 𝕄) :
    iprop(runPre p κ c ∗ (runPost p c -∗ Q ⟨⟩))
      ⊢ wp frame (wpE (defs₀ (F := F)) 𝒱₀ (c : Thread nD τ) none) Set.univ
        (cc1__ar_body (F := F) pM (Memref.isWhole_whole _) oM (Memref.isWhole_whole _) rM (Memref.isWhole_whole _) cc1_scratch1 cc1_scratch2 cc1_scratch3 cc1_scratch4) Q := by
  rw [cc1__ar_body_eq_skeleton]; unfold cc1__ar_body_skel
  simp only [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel k1_part6_skel k1_part7_skel
  simp only [semSignalWord, semWaitWord, Prog.lift, Prog.bind_op, Prog.bind_ret, Prog.pure_eq_ret, Prog.bind_assoc, wp_deviceId]
  simp only [bar_sem, semA0, semA1, semA2, semB0, semB1, semB2, semC0, semC1, semC2, semD0, semD1, semD2]
  unfold runPre
  iintro ⟨⟨#HR, #Hlev, Hbar, ⟨Hg0, Hg1, Hg2, Hg3, Hg4, Hg5⟩, #Hreach, Hp, ⟨%g, Ho⟩, ⟨%r, Hr⟩, HO⟩, Hk⟩
  ihave Hr3 := (Entails.of_eq (rbuf_split c r)) $$ Hr
  icases Hr3 with ⟨Hr0, Hr1, Hr2⟩
  iapply (wp_barrier p κ c _ _ (dev1_eq c) (dev2_eq c)) $$ [Hbar Hr0 Hr1 Hr2 HO]
  · isplitr; · iexact HR
    isplitr; · iexact Hlev
    isplitl [Hbar]; · iexact Hbar
    isplitr; · iexact Hreach
    isplitl [Hr0 Hr1 Hr2]
    · unfold slotE
      isplitl [Hr0]; · iexists r; iexact Hr0
      isplitl [Hr1]; · iexists r; iexact Hr1
      iexists r; iexact Hr2
    iexact HO
  iintro ⟨Hbar, Hready, HO⟩
  unfold readyPay
  icases Hready with ⟨⟨Hd0, Hd1, Hd2⟩, #Hn0, #Hn1, #Hn2, #Hn3, #Hn4, #Hn5⟩
  -- the partial result becomes the result buffer's first contents
  have e1 : k1_pay1 ((pM.access (Rect.unit (s := S2048x1024) ![0, 0] S2048x1024.size inb_S2048x1024_S2048x1024_0_0)).read (Elt F) (p c)) = p c := by
    unfold k1_pay1
    refine (shapeCast_self _ _).trans ?_
    exact Memref.readAt_unit_zero (Elt F) cc1_stg0_0 hz2 inb_S2048x1024_S2048x1024_0_0 (p c)
  iapply (wp_load_rect 𝒱₀ (c : Thread nD τ) none Set.univ (m := pM) (r := Rect.unit (s := S2048x1024) ![0, 0] S2048x1024.size inb_S2048x1024_S2048x1024_0_0) (Finset.subset_univ _)) $$ Hp
  iintro Hp
  iapply (wp_load_rect 𝒱₀ (c : Thread nD τ) none Set.univ (m := oM) (r := Rect.unit (s := S2048x1024) ![0, 0] S2048x1024.size inb_S2048x1024_S2048x1024_0_0) (Finset.subset_univ _)) $$ Ho
  iintro Ho
  rw [e1]
  iapply (wp_store 𝒱₀ (c : Thread nD τ) none Set.univ (m := oM) (r := Rect.unit (s := S2048x1024) ![0, 0] S2048x1024.size inb_S2048x1024_S2048x1024_0_0) (Finset.subset_univ _)) $$ Ho
  iintro Ho
  rw [show ((oM.access (Rect.unit (s := S2048x1024) ![0, 0] S2048x1024.size inb_S2048x1024_S2048x1024_0_0)).write (Elt F) g (p c) Finset.univ) = p c from
    Memref.write_access_unit_zero_univ (Elt F) cc1_stg1_0 hz2 inb_S2048x1024_S2048x1024_0_0 g (p c)]
  ihave Ho4 := (Entails.of_eq (out_split c (p c))) $$ Ho
  icases Ho4 with ⟨Ho0, Ho1, Ho2, Ho3⟩
  -- step 0
  iapply (wp_send_sum p κ c _ (dev3_eq c) 0 c (by rw [sh_sh]; exact (sh_four c 4).trans (sh_back c)) iprop(emp) (off1_0 c) (hX0 p c)) $$ [Hg0 Ho0 Hd0 HO]
  · isplitr; · iexact HR
    isplitl [Hg0]; · iexact Hg0
    isplitr; · iexact Hn0
    isplitl [Ho0]; · iexact Ho0
    isplitl [Hd0]; · iexact Hd0
    isplitr; · iempintro
    iexact HO
  iintro ⟨Hg0, HO⟩
  iapply (wp_wait_sent p κ c 0 (by decide) (credit_out _ _)) $$ [Hg0 HO]
  · isplitr; · iexact HR
    isplitr; · iexact Hlev
    isplitl [Hg0]; · iexact Hg0
    iexact HO
  iintro ⟨Hg0, HO, -⟩
  iapply (wp_wait_recv p κ c 0 (by decide) (credit_slot 0)) $$ [Hg0 HO]
  · isplitr; · iexact HR
    isplitr; · iexact Hlev
    isplitl [Hg0]; · iexact Hg0
    iexact HO
  iintro ⟨Hg0, HO, Hpay⟩
  ihave Hpay' := (show recvPay p c 0 ⊢ iprop(slotIn p c 0 ∗ outE (F := F) (sh c 3) (sh c 3)) from Entails.of_eq rfl) $$ Hpay
  icases Hpay' with ⟨Hs, HX⟩
  ihave Hs' := (slotIn_at p c 0 (sh c 3) (sh_four c 3)) $$ Hs
  icases Hs' with ⟨%f0, %hf0, Hs0⟩
  iapply (wp_load_chunk c (sh c 3) (p c) (off2_0 c)) $$ Ho3
  iintro Ho3
  iapply (wp_load_slot c 0 f0) $$ Hs0
  iintro Hs0
  iapply (wp_load_chunk c (sh c 3) (p c) (off2_0 c)) $$ Ho3
  iintro Ho3
  iapply (wp_store_chunk c (sh c 3) (p c) (acc p 1 c) (off2_0 c) _ (add_chunk p c 0 (sh c 3) f0 hf0)) $$ Ho3
  iintro Ho3
  -- step 1
  iapply (wp_send_sum p κ c _ (dev4_eq c) 1 (sh c 3) (by rw [sh_sh]; exact sh_four c 3) iprop(outE (F := F) (sh c 3) (sh c 3)) (off1_1 c) (hX1 p c)) $$ [Hg1 Ho3 Hd1 HX HO]
  · isplitr; · iexact HR
    isplitl [Hg1]; · iexact Hg1
    isplitr; · iexact Hn1
    isplitl [Ho3]; · iexact Ho3
    isplitl [Hd1]; · iexact Hd1
    isplitl [HX]; · iexact HX
    iexact HO
  iintro ⟨Hg1, HO⟩
  iapply (wp_wait_sent p κ c 1 (by decide) (credit_out _ _)) $$ [Hg1 HO]
  · isplitr; · iexact HR
    isplitr; · iexact Hlev
    isplitl [Hg1]; · iexact Hg1
    iexact HO
  iintro ⟨Hg1, HO, -⟩
  iapply (wp_wait_recv p κ c 1 (by decide) (credit_slot 1)) $$ [Hg1 HO]
  · isplitr; · iexact HR
    isplitr; · iexact Hlev
    isplitl [Hg1]; · iexact Hg1
    iexact HO
  iintro ⟨Hg1, HO, Hpay⟩
  ihave Hpay' := (show recvPay p c 1 ⊢ iprop(slotIn p c 1 ∗ outE (F := F) (sh c 3) (sh c 2) ∗ outE (F := F) (sh c 2) (sh c 2)) from Entails.of_eq rfl) $$ Hpay
  icases Hpay' with ⟨Hs, HX⟩
  ihave Hs' := (slotIn_at p c 1 (sh c 2) (sh_four c 2)) $$ Hs
  icases Hs' with ⟨%f1, %hf1, Hs1⟩
  iapply (wp_load_chunk c (sh c 2) (p c) (off2_1 c)) $$ Ho2
  iintro Ho2
  iapply (wp_load_slot c 1 f1) $$ Hs1
  iintro Hs1
  iapply (wp_load_chunk c (sh c 2) (p c) (off2_1 c)) $$ Ho2
  iintro Ho2
  iapply (wp_store_chunk c (sh c 2) (p c) (acc p 2 c) (off2_1 c) _ (add_chunk p c 1 (sh c 2) f1 hf1)) $$ Ho2
  iintro Ho2
  -- step 2
  iapply (wp_send_sum p κ c _ (dev5_eq c) 2 (sh c 2) (by rw [sh_sh]; exact sh_four c 2) iprop(outE (F := F) (sh c 3) (sh c 2) ∗ outE (F := F) (sh c 2) (sh c 2)) (off1_2 c) (hX2 p c)) $$ [Hg2 Ho2 Hd2 HX HO]
  · isplitr; · iexact HR
    isplitl [Hg2]; · iexact Hg2
    isplitr; · iexact Hn2
    isplitl [Ho2]; · iexact Ho2
    isplitl [Hd2]; · iexact Hd2
    isplitl [HX]; · iexact HX
    iexact HO
  iintro ⟨Hg2, HO⟩
  iapply (wp_wait_sent p κ c 2 (by decide) (credit_out _ _)) $$ [Hg2 HO]
  · isplitr; · iexact HR
    isplitr; · iexact Hlev
    isplitl [Hg2]; · iexact Hg2
    iexact HO
  iintro ⟨Hg2, HO, -⟩
  iapply (wp_wait_recv p κ c 2 (by decide) (credit_slot 2)) $$ [Hg2 HO]
  · isplitr; · iexact HR
    isplitr; · iexact Hlev
    isplitl [Hg2]; · iexact Hg2
    iexact HO
  iintro ⟨Hg2, HO, Hpay⟩
  ihave Hpay' := (show recvPay p c 2 ⊢ iprop(slotIn p c 2 ∗ outE (F := F) (sh c 3) (sh c 1) ∗ outE (F := F) (sh c 2) (sh c 1) ∗ outE (F := F) (sh c 1) (sh c 1)) from Entails.of_eq rfl) $$ Hpay
  icases Hpay' with ⟨Hs, HX⟩
  ihave Hs' := (slotIn_at p c 2 (sh c 1) (sh_four c 1)) $$ Hs
  icases Hs' with ⟨%f2, %hf2, Hs2⟩
  iapply (wp_load_chunk c (sh c 1) (p c) (off2_2 c)) $$ Ho1
  iintro Ho1
  iapply (wp_load_slot c 2 f2) $$ Hs2
  iintro Hs2
  iapply (wp_load_chunk c (sh c 1) (p c) (off2_2 c)) $$ Ho1
  iintro Ho1
  iapply (wp_store_chunk c (sh c 1) (p c) (acc p 3 c) (off2_2 c) _ (add_chunk p c 2 (sh c 1) f2 hf2)) $$ Ho1
  iintro Ho1
  icases HX with ⟨HXa, HXb, HXc⟩
  ihave Ho1 := (Entails.of_eq (finished p c)) $$ Ho1
  -- step 3
  iapply (wp_send_chunk p κ c _ (dev6_eq c) 3 (by decide) (sh c 1) iprop(outE (F := F) (sh c 3) (sh c 1) ∗ outE (F := F) (sh c 2) (sh c 1)) (off3_0 c) (Entails.of_eq rfl) (hX3 p c)) $$ [Hg3 Ho1 HXa HXb HXc HO]
  · isplitr; · iexact HR
    isplitl [Hg3]; · iexact Hg3
    isplitr; · iexact Hn3
    isplitl [Ho1]; · iexact Ho1
    isplitl [HXc]; · iexact HXc
    isplitl [HXa HXb]
    · isplitl [HXa]; · iexact HXa
      iexact HXb
    iexact HO
  iintro ⟨Hg3, HO⟩
  iapply (wp_wait_sent p κ c 3 (by decide) (credit_out _ _)) $$ [Hg3 HO]
  · isplitr; · iexact HR
    isplitr; · iexact Hlev
    isplitl [Hg3]; · iexact Hg3
    iexact HO
  iintro ⟨Hg3, HO, Hback⟩
  ihave Ho1' := (show sendPay p c 3 ⊢ outP c (sh c 1) (total p) from Entails.of_eq rfl) $$ Hback
  iapply (wp_wait_recv p κ c 3 (by decide) (credit_out _ _)) $$ [Hg3 HO]
  · isplitr; · iexact HR
    isplitr; · iexact Hlev
    isplitl [Hg3]; · iexact Hg3
    iexact HO
  iintro ⟨Hg3, HO, Hpay⟩
  ihave Hpay' := (show recvPay p c 3 ⊢ iprop(outP c c (total p) ∗ outE (F := F) (sh c 2) c ∗ outE (F := F) (sh c 1) c) from Entails.of_eq rfl) $$ Hpay
  icases Hpay' with ⟨Ho0, HXa, HXb⟩
  -- step 4
  iapply (wp_send_chunk p κ c _ (dev7_eq c) 4 (by decide) c iprop(outE (F := F) (sh c 2) c) (off3_1 c) (Entails.of_eq rfl) (hX4 p c)) $$ [Hg4 Ho0 HXa HXb HO]
  · isplitr; · iexact HR
    isplitl [Hg4]; · iexact Hg4
    isplitr; · iexact Hn4
    isplitl [Ho0]; · iexact Ho0
    isplitl [HXb]; · iexact HXb
    isplitl [HXa]; · iexact HXa
    iexact HO
  iintro ⟨Hg4, HO⟩
  iapply (wp_wait_sent p κ c 4 (by decide) (credit_out _ _)) $$ [Hg4 HO]
  · isplitr; · iexact HR
    isplitr; · iexact Hlev
    isplitl [Hg4]; · iexact Hg4
    iexact HO
  iintro ⟨Hg4, HO, Hback⟩
  ihave Ho0' := (show sendPay p c 4 ⊢ outP c c (total p) from Entails.of_eq rfl) $$ Hback
  iapply (wp_wait_recv p κ c 4 (by decide) (credit_out _ _)) $$ [Hg4 HO]
  · isplitr; · iexact HR
    isplitr; · iexact Hlev
    isplitl [Hg4]; · iexact Hg4
    iexact HO
  iintro ⟨Hg4, HO, Hpay⟩
  ihave Hpay' := (show recvPay p c 4 ⊢ iprop(outP c (sh c 3) (total p) ∗ outE (F := F) (sh c 1) (sh c 3)) from Entails.of_eq rfl) $$ Hpay
  icases Hpay' with ⟨Ho3, HXa⟩
  -- step 5
  iapply (wp_send_chunk p κ c _ (dev8_eq c) 5 (by decide) (sh c 3) iprop(emp) (off3_2 c) (Entails.of_eq rfl) (hX5 p c)) $$ [Hg5 Ho3 HXa HO]
  · isplitr; · iexact HR
    isplitl [Hg5]; · iexact Hg5
    isplitr; · iexact Hn5
    isplitl [Ho3]; · iexact Ho3
    isplitl [HXa]; · iexact HXa
    isplitr; · iempintro
    iexact HO
  iintro ⟨Hg5, HO⟩
  iapply (wp_wait_sent p κ c 5 (by decide) (credit_out _ _)) $$ [Hg5 HO]
  · isplitr; · iexact HR
    isplitr; · iexact Hlev
    isplitl [Hg5]; · iexact Hg5
    iexact HO
  iintro ⟨Hg5, HO, Hback⟩
  ihave Ho3' := (show sendPay p c 5 ⊢ outP c (sh c 3) (total p) from Entails.of_eq rfl) $$ Hback
  iapply (wp_wait_recv p κ c 5 (by decide) (credit_out _ _)) $$ [Hg5 HO]
  · isplitr; · iexact HR
    isplitr; · iexact Hlev
    isplitl [Hg5]; · iexact Hg5
    iexact HO
  iintro ⟨Hg5, HO, Hpay⟩
  ihave Hpay' := (show recvPay p c 5 ⊢ iprop(outP c (sh c 2) (total p)) from Entails.of_eq rfl) $$ Hpay
  -- every cell is closed
  rw [wp_ret]
  imod (Rounds.cell_close ER (ringRd p) (Set.mem_univ (κ (barCell c))) (fun h => h) (R := 1) (duties_later p (barCell c))) $$ [Hbar] with Hbar
  · isplitr; · iapply (inv_at p κ (bar_mem c)); iexact HR
    iexact Hbar
  imod (close_step p κ c 0) $$ [Hg0] with Hg0
  · isplitr; · iexact HR
    iexact Hg0
  imod (close_step p κ c 1) $$ [Hg1] with Hg1
  · isplitr; · iexact HR
    iexact Hg1
  imod (close_step p κ c 2) $$ [Hg2] with Hg2
  · isplitr; · iexact HR
    iexact Hg2
  imod (close_step p κ c 3) $$ [Hg3] with Hg3
  · isplitr; · iexact HR
    iexact Hg3
  imod (close_step p κ c 4) $$ [Hg4] with Hg4
  · isplitr; · iexact HR
    iexact Hg4
  imod (close_step p κ c 5) $$ [Hg5] with Hg5
  · isplitr; · iexact HR
    iexact Hg5
  imodintro
  iapply Hk
  unfold runPost
  isplitl [Hbar]; · iexact Hbar
  isplitl [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4]; · iexact Hg4
    iexact Hg5
  isplitl [Hp]; · iexact Hp
  isplitl [Ho0' Ho1' Ho3' Hpay']
  · iapply (Entails.of_eq (out_split c (total p)).symm)
    isplitl [Ho0']; · iexact Ho0'
    isplitl [Ho1']; · iexact Ho1'
    isplitl [Hpay']; · iexact Hpay'
    iexact Ho3'
  isplitl [Hs0 Hs1 Hs2]
  · iapply (rbuf_join c f0 f1 f2)
    isplitl [Hs0]; · iexact Hs0
    isplitl [Hs1]; · iexact Hs1
    iexact Hs2
  iexact HO

end Run

end Cert.KernelIdealProof
-- ==== Proof.KernelIdeal.Records.lean ====
/- The two kernels as regions of the program: what each is entered with and what it leaves. -/
module

public import proofs.«01_k».proof.Proof.KernelIdeal.Attn
public import proofs.«01_k».proof.Proof.KernelIdeal.Ring
public import proofs.«01_k».proof.Proof.Gen.KernelIdeal.Regions
public import Idealize.ShloMosaic.Lib.Pipeline.RegionTalk
public import Idealize.ShloMosaic.Lib.Pipeline.RegionArraysS
public import Idealize.ShloMosaic.Lib.Pipeline.FrameBody

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the two kernels leave -/

/-- Device `c`'s partial result, from what the host prepared for it. -/
def part (c : Dev nD) : Mat F :=
  partialOf (V1 m c main_v5) (V1 m c main_v10) (V1 m c main_v15) (V1 m c main_v17) (V1 m c main_v19)

def outs : Outs (F := F) := fun _ =>
  Function.update (Function.update (fun r c => m ((c : Thread nD τ).loc r)) main_v20 fun c => part m c) main_v21 fun _ => total (part m)

theorem outs_part (c : Dev nD) : outs m 2 main_v20 c = part m c := by
  unfold outs
  rw [Function.update_of_ne (by decide), Function.update_self]
theorem outs_total (c : Dev nD) : outs m 3 main_v21 c = total (part m) := by
  unfold outs
  rw [Function.update_self]

theorem V2_v20 (c : Dev nD) : V2 m (outs m) c main_v20 = part m c := (Function.update_self _ _ _).trans (outs_part m c)
theorem V3_v21 (c : Dev nD) : V3 m (outs m) c main_v21 = total (part m) := (Function.update_self _ _ _).trans (outs_total m c)

/-! ## The ghost state of the ring before its semaphores are in hand -/

/-- The tokens of the duties on the sending semaphores of device `c`, and on its receiving ones. -/
def sToks (c : Dev nD) : sProp 𝕄 :=
  iprop(dutyTok ER (sCell 0 c) 0 false ∗ dutyTok ER (sCell 1 c) 0 false ∗ dutyTok ER (sCell 2 c) 0 false
    ∗ dutyTok ER (sCell 3 c) 0 false ∗ dutyTok ER (sCell 4 c) 0 false ∗ dutyTok ER (sCell 5 c) 0 false)
def rToks (c : Dev nD) : sProp 𝕄 :=
  iprop(dutyTok ER (rCell 0 c) 0 false ∗ dutyTok ER (rCell 1 c) 0 false ∗ dutyTok ER (rCell 2 c) 0 false
    ∗ dutyTok ER (rCell 3 c) 0 false ∗ dutyTok ER (rCell 4 c) 0 false ∗ dutyTok ER (rCell 5 c) 0 false)
/-- The credit launched on the receiving semaphores. -/
def rCreds (c : Dev nD) : sProp 𝕄 :=
  iprop(cred (tallyAt (rCell 0 c) () N) ∗ cred (tallyAt (rCell 1 c) () N) ∗ cred (tallyAt (rCell 2 c) () N)
    ∗ cred (tallyAt (rCell 3 c) () N) ∗ cred (tallyAt (rCell 4 c) () N) ∗ cred (tallyAt (rCell 5 c) () N))
/-- Two resources for each step, its sending and its receiving semaphore's. -/
def paired (Φ : SemLoc sig → sProp 𝕄) : sProp 𝕄 :=
  iprop((Φ (.dma (sS 0)) ∗ Φ (.dma (rS 0))) ∗ (Φ (.dma (sS 1)) ∗ Φ (.dma (rS 1))) ∗ (Φ (.dma (sS 2)) ∗ Φ (.dma (rS 2)))
    ∗ (Φ (.dma (sS 3)) ∗ Φ (.dma (rS 3))) ∗ (Φ (.dma (sS 4)) ∗ Φ (.dma (rS 4))) ∗ (Φ (.dma (sS 5)) ∗ Φ (.dma (rS 5))))

theorem paired_eq (Φ : SemLoc sig → sProp 𝕄) : bigSep Finset.univ (fun q : Fin 12 => Φ (osem q)) = paired Φ := by
  rw [bigSep_univ_eq_bigSepL [(0 : Fin 12), 1, 2, 3, 4, 5, 6, 7, 8, 9, 10, 11] (by decide) (by decide)]
  apply BI.equiv_iff.mp
  constructor
  · show iprop(Φ (.dma 8) ∗ Φ (.dma 9) ∗ Φ (.dma 10) ∗ Φ (.dma 11) ∗ Φ (.dma 12) ∗ Φ (.dma 13) ∗ Φ (.dma 14) ∗ Φ (.dma 15) ∗ Φ (.dma 16)
      ∗ Φ (.dma 17) ∗ Φ (.dma 18) ∗ Φ (.dma 19))
      ⊢ iprop((Φ (.dma 8) ∗ Φ (.dma 11)) ∗ (Φ (.dma 9) ∗ Φ (.dma 12)) ∗ (Φ (.dma 10) ∗ Φ (.dma 13))
        ∗ (Φ (.dma 14) ∗ Φ (.dma 17)) ∗ (Φ (.dma 15) ∗ Φ (.dma 18)) ∗ (Φ (.dma 16) ∗ Φ (.dma 19)))
    iintro ⟨H8, H9, H10, H11, H12, H13, H14, H15, H16, H17, H18, H19⟩
    isplitl [H8 H11]; · isplitl [H8] <;> iassumption
    isplitl [H9 H12]; · isplitl [H9] <;> iassumption
    isplitl [H10 H13]; · isplitl [H10] <;> iassumption
    isplitl [H14 H17]; · isplitl [H14] <;> iassumption
    isplitl [H15 H18]; · isplitl [H15] <;> iassumption
    isplitl [H16] <;> iassumption
  · show iprop((Φ (.dma 8) ∗ Φ (.dma 11)) ∗ (Φ (.dma 9) ∗ Φ (.dma 12)) ∗ (Φ (.dma 10) ∗ Φ (.dma 13))
        ∗ (Φ (.dma 14) ∗ Φ (.dma 17)) ∗ (Φ (.dma 15) ∗ Φ (.dma 18)) ∗ (Φ (.dma 16) ∗ Φ (.dma 19)))
      ⊢ iprop(Φ (.dma 8) ∗ Φ (.dma 9) ∗ Φ (.dma 10) ∗ Φ (.dma 11) ∗ Φ (.dma 12) ∗ Φ (.dma 13) ∗ Φ (.dma 14) ∗ Φ (.dma 15) ∗ Φ (.dma 16)
      ∗ Φ (.dma 17) ∗ Φ (.dma 18) ∗ Φ (.dma 19))
    iintro ⟨⟨H8, H11⟩, ⟨H9, H12⟩, ⟨H10, H13⟩, ⟨H14, H17⟩, ⟨H15, H18⟩, ⟨H16, H19⟩⟩
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18] <;> iassumption

/-- What the launch deals device `c`, as it is kept up to the second kernel: its place at the barrier
cell, the right to open its transfer cells, the tokens of the duties that it pays. -/
def dealt (c : Dev nD) : sProp 𝕄 :=
  iprop(atPos ER (barCell c) 0 ∅ 0 ∗ (dutyTok ER (barCell (sh c 3)) 0 true ∗ dutyTok ER (barCell (sh c 1)) 0 false)
    ∗ paired (fun sm => openTok ER ((c : Thread nD τ), sm)) ∗ sToks c ∗ rToks (sh c 1))

/-- With the records and the credit: what the second kernel starts from, its semaphores still closed; -/
def Tk (c : Dev nD) : sProp 𝕄 :=
  iprop((∃ κ, recs (part m) κ ∗ dealt c) ∗ cred (tallyAt (barCell c) () 2) ∗ rCreds c)

/-- and opened. -/
def Xk (c : Dev nD) : sProp 𝕄 :=
  iprop(∃ κ, recs (part m) κ ∗ levAts L lv
    ∗ (atPos ER (barCell c) 0 ∅ 0 ∗ cred (tallyAt (barCell c) () 2) ∗ dutyTok ER (barCell (sh c 3)) 0 true ∗ dutyTok ER (barCell (sh c 1)) 0 false)
    ∗ (gStart 0 c ∗ gStart 1 c ∗ gStart 2 c ∗ gStart 3 c ∗ gStart 4 c ∗ gStart 5 c)
    ∗ (reached ER (rCell 0 c) 0 ∗ reached ER (rCell 1 c) 0 ∗ reached ER (rCell 2 c) 0
      ∗ reached ER (rCell 3 c) 0 ∗ reached ER (rCell 4 c) 0 ∗ reached ER (rCell 5 c) 0))

def Yk (c : Dev nD) : sProp 𝕄 := semVal (barCell c) 0

theorem open_step (p : Dev nD → Mat F) (κ : GSem nD τ sig → ℕ) (k : ℕ) (c : Dev nD) :
    iprop(recs p κ ∗ (openTok ER (sCell k c) ∗ openTok ER (rCell k c)) ∗ (semVal (sCell k c) 0 ∗ semVal (rCell k c) 0)
        ∗ dutyTok ER (sCell k c) 0 false ∗ dutyTok ER (rCell k (sh c 1)) 0 false ∗ cred (tallyAt (rCell k c) () N))
      ⊢ |={Set.univ}=> iprop(gStart k c ∗ reached ER (rCell k c) 0 : sProp 𝕄) := by
  unfold gStart
  iintro ⟨#HR, ⟨Hos, Hor⟩, ⟨Hs, Hr⟩, Hts, Htr, Hc⟩
  imod (Rounds.cell_open ER (ringRd p) (g := sCell k c) (Set.mem_univ (κ (sCell k c)))) $$ [Hos Hs] with ⟨Has, #Hrs⟩
  · isplitr; · iapply (inv_at p κ (s_mem k c)); iexact HR
    isplitl [Hos] <;> iassumption
  imod (Rounds.cell_open ER (ringRd p) (g := rCell k c) (Set.mem_univ (κ (rCell k c)))) $$ [Hor Hr] with ⟨Har, #Hrr⟩
  · isplitr; · iapply (inv_at p κ (r_mem k c)); iexact HR
    isplitl [Hor] <;> iassumption
  imodintro
  isplitl [Has Har Hts Htr Hc]
  · isplitl [Has]
    · isplitl [Has]; · iexact Has
      iexact Hrs
    isplitl [Har]; · iexact Har
    isplitl [Hts]; · iexact Hts
    isplitl [Htr]; · iexact Htr
    iexact Hc
  · iexact Hrr

theorem hopen (c : Dev nD) : iprop(Tk m c ∗ Pipeline.ownSems0 osem c ∗ levAts L lv) ⊢ (|={Set.univ}=> Xk m c : sProp 𝕄) := by
  rw [show (Pipeline.ownSems0 osem c : sProp 𝕄) = paired (fun sm => semVal ((c : Thread nD τ), sm) 0) from
    paired_eq (F := F) (fun sm => semVal ((c : Thread nD τ), sm) 0)]
  unfold Tk Xk dealt sToks rToks rCreds paired
  iintro ⟨⟨⟨%κ, #HR, Hat, ⟨Ht1, Ht2⟩, ⟨Ho0, Ho1, Ho2, Ho3, Ho4, Ho5⟩, ⟨Hs0, Hs1, Hs2, Hs3, Hs4, Hs5⟩, ⟨Hr0, Hr1, Hr2, Hr3, Hr4, Hr5⟩⟩, HcB, ⟨Hc0, Hc1, Hc2, Hc3, Hc4, Hc5⟩⟩,
    ⟨Hv0, Hv1, Hv2, Hv3, Hv4, Hv5⟩, #Hlev⟩
  imod (open_step (part m) κ 0 c) $$ [Ho0 Hv0 Hs0 Hr0 Hc0] with ⟨Hg0, #Hq0⟩
  · isplitr; · iexact HR
    isplitl [Ho0]; · iexact Ho0
    isplitl [Hv0]; · iexact Hv0
    isplitl [Hs0]; · iexact Hs0
    isplitl [Hr0] <;> iassumption
  imod (open_step (part m) κ 1 c) $$ [Ho1 Hv1 Hs1 Hr1 Hc1] with ⟨Hg1, #Hq1⟩
  · isplitr; · iexact HR
    isplitl [Ho1]; · iexact Ho1
    isplitl [Hv1]; · iexact Hv1
    isplitl [Hs1]; · iexact Hs1
    isplitl [Hr1] <;> iassumption
  imod (open_step (part m) κ 2 c) $$ [Ho2 Hv2 Hs2 Hr2 Hc2] with ⟨Hg2, #Hq2⟩
  · isplitr; · iexact HR
    isplitl [Ho2]; · iexact Ho2
    isplitl [Hv2]; · iexact Hv2
    isplitl [Hs2]; · iexact Hs2
    isplitl [Hr2] <;> iassumption
  imod (open_step (part m) κ 3 c) $$ [Ho3 Hv3 Hs3 Hr3 Hc3] with ⟨Hg3, #Hq3⟩
  · isplitr; · iexact HR
    isplitl [Ho3]; · iexact Ho3
    isplitl [Hv3]; · iexact Hv3
    isplitl [Hs3]; · iexact Hs3
    isplitl [Hr3] <;> iassumption
  imod (open_step (part m) κ 4 c) $$ [Ho4 Hv4 Hs4 Hr4 Hc4] with ⟨Hg4, #Hq4⟩
  · isplitr; · iexact HR
    isplitl [Ho4]; · iexact Ho4
    isplitl [Hv4]; · iexact Hv4
    isplitl [Hs4]; · iexact Hs4
    isplitl [Hr4] <;> iassumption
  imod (open_step (part m) κ 5 c) $$ [Ho5 Hv5 Hs5 Hr5 Hc5] with ⟨Hg5, #Hq5⟩
  · isplitr; · iexact HR
    isplitl [Ho5]; · iexact Ho5
    isplitl [Hv5]; · iexact Hv5
    isplitl [Hs5]; · iexact Hs5
    isplitl [Hr5] <;> iassumption
  imodintro
  iexists κ
  isplitr; · iexact HR
  isplitr; · iexact Hlev
  isplitl [Hat HcB Ht1 Ht2]
  · isplitl [Hat]; · iexact Hat
    isplitl [HcB]; · iexact HcB
    isplitl [Ht1] <;> iassumption
  isplitl [Hg0 Hg1 Hg2 Hg3 Hg4 Hg5]
  · isplitl [Hg0]; · iexact Hg0
    isplitl [Hg1]; · iexact Hg1
    isplitl [Hg2]; · iexact Hg2
    isplitl [Hg3]; · iexact Hg3
    isplitl [Hg4] <;> iassumption
  isplitr; · iexact Hq0
  isplitr; · iexact Hq1
  isplitr; · iexact Hq2
  isplitr; · iexact Hq3
  isplitr; · iexact Hq4
  iexact Hq5

/-! ## The two regions' proof data -/

def dat0 (c : Dev nD) : Dat τ (Elt F) Unit ℕ UU ℕ cfg0 c where
  A w := V1 m c (Proc.devRef .tc (Pipeline.arrRef cfg0.spec w))
  after w _ := match w with
    | ⟨0, _⟩ => V1 m c main_v5
    | ⟨1, _⟩ => V1 m c main_v10
    | ⟨2, _⟩ => V1 m c main_v17
    | ⟨3, _⟩ => V1 m c main_v19
    | ⟨4, _⟩ => V1 m c main_v15
    | ⟨5, _⟩ => part m c
  Φ _ := Pipeline.scopedRest spec0 c
  q _ := fullShare
  owed _ := O₀ c

/-- What the second kernel's memory beside its windows holds: before, and after. -/
def dat1 (c : Dev nD) : Dat τ (Elt F) Unit ℕ UU ℕ cfg1 c where
  A w := V2 m (outs m) c (Proc.devRef .tc (Pipeline.arrRef cfg1.spec w))
  after w _ := match w with
    | ⟨0, _⟩ => part m c
    | ⟨1, _⟩ => total (part m)
  Φ t := if t.val = 0 then iprop(Pipeline.scopedRest spec1 c ∗ (∃ r, prngReg c r) ∗ Xk m c)
    else iprop(Pipeline.scopedRest spec1 c ∗ (∃ r, prngReg c r) ∗ Pipeline.ownSems0 osem c ∗ Yk c)
  q _ := fullShare
  owed t := if t.val = 0 then O₀ c else 0

def pdats : (p : Fin 2) → (c : Dev nD) → Dat τ (Elt F) Unit ℕ UU ℕ (cfgs p) c
  | 0 => dat0 m
  | 1 => dat1 m

/-! ### A window covers its array -/

/-- Placing an index of a whole window's block in the array does not move it. -/
theorem place (b : Ref sig .tc) {off : Fin b.ty.shape.rank → ℕ} (hz : ∀ a, off a = 0) (inb)
    (j : b.ty.shape.Idx) : ((View.whole b).slice (Rect.unit off b.ty.shape.size inb)).emb j = j := by
  funext a; apply Fin.ext
  show off a + 1 * (j a).val = (j a).val
  rw [hz a]; omega

theorem arrAt0_5 (c : Dev nD) : (dat0 m c).arrAt 5 cfg0.N = part m c :=
  (dat0 m c).arrAt_eq_of_cover 5 (part m c) (fun t _ => funext fun j =>
      congrArg (part m c) (place main_v20 (fun a => Nat.zero_mul _) _ j).symm)
    fun i => ⟨t0_0, flush0_5 t0_0, by
      have h := ((cfg0.win 5).blk t0_0).view.emb_mem_set i
      rwa [show ((cfg0.win 5).blk t0_0).view.emb i = i from place main_v20 (fun a => Nat.zero_mul _) _ i] at h⟩

theorem arrAt1_1 (c : Dev nD) : (dat1 m c).arrAt 1 cfg1.N = total (part m) :=
  (dat1 m c).arrAt_eq_of_cover 1 (total (part m)) (fun t _ => funext fun j =>
      congrArg (total (part m)) (place main_v21 (fun a => Nat.zero_mul _) _ j).symm)
    fun i => ⟨t1_0, flush1_1 t1_0, by
      have h := ((cfg1.win 1).blk t1_0).view.emb_mem_set i
      rwa [show ((cfg1.win 1).blk t1_0).view.emb i = i from place main_v21 (fun a => Nat.zero_mul _) _ i] at h⟩

/-- What a fetch brings into an input's staging buffer: its array. -/
theorem before0 (c : Dev nD) :
    (∀ d, (dat0 m c).before 0 t0_0 d = V1 m c main_v5) ∧ (∀ d, (dat0 m c).before 1 t0_0 d = V1 m c main_v10)
    ∧ (∀ d, (dat0 m c).before 2 t0_0 d = V1 m c main_v17) ∧ (∀ d, (dat0 m c).before 3 t0_0 d = V1 m c main_v19)
    ∧ (∀ d, (dat0 m c).before 4 t0_0 d = V1 m c main_v15) := by
  refine ⟨fun d => ?_, fun d => ?_, fun d => ?_, fun d => ?_, fun d => ?_⟩
  · exact ((dat0 m c).before_fetched 0 t0_0 (fetch0_0 _) d).trans (funext fun j => congrArg (V1 m c main_v5) (place main_v5 (fun a => Nat.zero_mul _) _ j))
  · exact ((dat0 m c).before_fetched 1 t0_0 (fetch0_1 _) d).trans (funext fun j => congrArg (V1 m c main_v10) (place main_v10 (fun a => Nat.zero_mul _) _ j))
  · exact ((dat0 m c).before_fetched 2 t0_0 (fetch0_2 _) d).trans (funext fun j => congrArg (V1 m c main_v17) (place main_v17 (fun a => Nat.zero_mul _) _ j))
  · exact ((dat0 m c).before_fetched 3 t0_0 (fetch0_3 _) d).trans (funext fun j => congrArg (V1 m c main_v19) (place main_v19 (fun a => Nat.zero_mul _) _ j))
  · exact ((dat0 m c).before_fetched 4 t0_0 (fetch0_4 _) d).trans (funext fun j => congrArg (V1 m c main_v15) (place main_v15 (fun a => Nat.zero_mul _) _ j))

theorem before1 (c : Dev nD) (d) : (dat1 m c).before 0 t1_0 d = part m c :=
  (((dat1 m c).before_fetched 0 t1_0 (fetch1_0 _) d).trans
    (funext fun j => congrArg (V2 m (outs m) c main_v20) (place main_v20 (fun a => Nat.zero_mul _) _ j))).trans (V2_v20 m c)

/-! ### The bodies -/

theorem owesAt_make {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) :
    owesE (F := F) c O ⊢ (dat.owesAt () t : sProp 𝕄) := by
  unfold owesE Dat.owesAt Pipeline.owesWithin Dat.bound; rw [h, hr]
  iintro ⟨%W, HO⟩; iexists W
  isplitr; · ipureintro; exact fun _ _ => Or.inl trivial
  iexact HO
theorem owesAt_read {cfg : Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ owesE (F := F) c O := by
  unfold owesE Dat.owesAt Pipeline.owesWithin; rw [h]
  iintro ⟨%W, -, HO⟩; iexists W; iexact HO

theorem owns_pt (c : Dev nD) (b : Ref sig .tc) (X : b.ty.Contents (Elt F)) :
    (owns (c : Thread nD τ) (Memref.whole b) fullShare X : sProp 𝕄) = (((c : Thread nD τ).loc b) ↦[Finset.univ]{fullShare} X) :=
  owns_whole (c : Thread nD τ) b fullShare X

abbrev at0 (c : Dev nD) (b : Ref sig .tc) (X : b.ty.Contents (Elt F)) : sProp 𝕄 :=
  owns (c : Thread nD τ) (Memref.whole b) fullShare X

theorem body0 (c : Dev nD) : BodyObligation (dat0 m c) defs₀ 𝒱₀ () Set.univ := fun t => by
  obtain rfl := fin_N0 t
  obtain ⟨b0, b1, b2, b3, b4⟩ := before0 m c
  rw [bigSep_W0, bigSep_W0]
  show iprop(Pipeline.scopedRest spec0 c ∗ (dat0 m c).owesAt () t0_0.castSucc
      ∗ (∃ d, at0 c cc0_stg0_0 ((dat0 m c).before 0 t0_0 d)) ∗ (∃ d, at0 c cc0_stg1_0 ((dat0 m c).before 1 t0_0 d))
      ∗ (∃ d, at0 c cc0_stg2_0 ((dat0 m c).before 2 t0_0 d)) ∗ (∃ d, at0 c cc0_stg3_0 ((dat0 m c).before 3 t0_0 d))
      ∗ (∃ d, at0 c cc0_stg4_0 ((dat0 m c).before 4 t0_0 d)) ∗ (∃ d, at0 c cc0_stg5_0 ((dat0 m c).before 5 t0_0 d)))
    ⊢ wpA c (cc0__attn_body (F := F) xM (Memref.isWhole_whole _) wqM (Memref.isWhole_whole _) kM (Memref.isWhole_whole _) vM (Memref.isWhole_whole _)
          woM (Memref.isWhole_whole _) paM (Memref.isWhole_whole _) cxM (Memref.isWhole_whole _)) fun _ =>
      iprop(Pipeline.scopedRest spec0 c ∗ (dat0 m c).owesAt () t0_0.castSucc
      ∗ at0 c cc0_stg0_0 (V1 m c main_v5) ∗ at0 c cc0_stg1_0 (V1 m c main_v10) ∗ at0 c cc0_stg2_0 (V1 m c main_v17)
      ∗ at0 c cc0_stg3_0 (V1 m c main_v19) ∗ at0 c cc0_stg4_0 (V1 m c main_v15) ∗ at0 c cc0_stg5_0 (part m c))
  simp only [at0, b0, b1, b2, b3, b4]
  rw [scopedRest0_eq]
  simp only [owns_pt]
  iintro ⟨⟨Hcx, Hr1, Hr2, Hr3⟩, HO, ⟨%d0, H0⟩, ⟨%d1, H1⟩, ⟨%d2, H2⟩, ⟨%d3, H3⟩, ⟨%d4, H4⟩, ⟨%d5, H5⟩⟩
  iapply (attnRun (V1 m c main_v5) (V1 m c main_v10) (V1 m c main_v15) (V1 m c main_v17) (V1 m c main_v19) c)
  unfold inputs
  isplitl [Hcx H0 H1 H2 H3 H4 H5]
  · isplitl [H0 H1 H2 H3 H4]
    · isplitl [H0]; · iexact H0
      isplitl [H1]; · iexact H1
      isplitl [H2]; · iexact H2
      isplitl [H3]; · iexact H3
      iexact H4
    isplitl [Hcx]; · iexact Hcx
    iexists _; iexact H5
  iintro ⟨⟨H0, H1, H2, H3, H4⟩, Hcx, H5⟩
  isplitl [Hcx Hr1 Hr2 Hr3]
  · isplitl [Hcx]; · iexact Hcx
    isplitl [Hr1]; · iexact Hr1
    isplitl [Hr2]; · iexact Hr2
    iexact Hr3
  isplitl [HO]; · iexact HO
  isplitl [H0]; · iexact H0
  isplitl [H1]; · iexact H1
  isplitl [H2]; · iexact H2
  isplitl [H3]; · iexact H3
  isplitl [H4]; · iexact H4
  iexact H5

theorem Φ1_first (c : Dev nD) : (dat1 m c).Φ t1_0.castSucc = iprop(Pipeline.scopedRest spec1 c ∗ (∃ r, prngReg c r) ∗ Xk m c) := rfl
theorem Φ1_last (c : Dev nD) : (dat1 m c).Φ t1_0.succ = iprop(Pipeline.scopedRest spec1 c ∗ (∃ r, prngReg c r) ∗ Pipeline.ownSems0 osem c ∗ Yk c) := rfl

theorem body1 (c : Dev nD) : BodyObligation (dat1 m c) defs₀ 𝒱₀ () Set.univ := fun t => by
  obtain rfl := fin_N1 t
  rw [bigSep_W1, bigSep_W1, Φ1_first, Φ1_last, show (Pipeline.ownSems0 osem c : sProp 𝕄) = paired (fun sm => semVal ((c : Thread nD τ), sm) 0) from
    paired_eq (F := F) (fun sm => semVal ((c : Thread nD τ), sm) 0)]
  show iprop((Pipeline.scopedRest spec1 c ∗ (∃ r, prngReg c r) ∗ Xk m c) ∗ (dat1 m c).owesAt () t1_0.castSucc
      ∗ (∃ d, at0 c cc1_stg0_0 ((dat1 m c).before 0 t1_0 d)) ∗ (∃ d, at0 c cc1_stg1_0 ((dat1 m c).before 1 t1_0 d)))
    ⊢ wp frame (wpE (defs₀ (F := F)) 𝒱₀ (c : Thread nD τ) none) Set.univ
        (cc1__ar_body (F := F) pM (Memref.isWhole_whole _) oM (Memref.isWhole_whole _) rM (Memref.isWhole_whole _) cc1_scratch1 cc1_scratch2 cc1_scratch3 cc1_scratch4) fun _ =>
      iprop((Pipeline.scopedRest spec1 c ∗ (∃ r, prngReg c r) ∗ paired (fun sm => semVal ((c : Thread nD τ), sm) 0) ∗ Yk c) ∗ (dat1 m c).owesAt () t1_0.succ
      ∗ at0 c cc1_stg0_0 (part m c) ∗ at0 c cc1_stg1_0 (total (part m)))
  simp only [at0, before1]
  rw [scopedRest1_eq]
  simp only [owns_pt]
  unfold Xk
  iintro ⟨⟨⟨Ha, Hb, Hc, Hd, He, Hf, Hg, Hs⟩, Hp, ⟨%κ, #HR, #Hlev, HB, HG, HQ⟩⟩, HO, ⟨%d0, H0⟩, ⟨%d1, H1⟩⟩
  ihave HO' := (owesAt_read (dat1 m c) t1_0.castSucc (O₀ c) rfl) $$ HO
  iapply (ringRun (part m) κ c)
  unfold runPre runPost
  isplitl [HB HG HQ HO' H0 H1 Hs]
  · isplitr; · iexact HR
    isplitr; · iexact Hlev
    isplitl [HB]; · iexact HB
    isplitl [HG]; · iexact HG
    isplitl [HQ]; · iexact HQ
    isplitl [H0]; · iexact H0
    isplitl [H1]; · iexists _; iexact H1
    isplitl [Hs]; · iexact Hs
    iexact HO'
  iintro ⟨HY, HV, H0, H1, Hs, HO⟩
  isplitl [Ha Hb Hc Hd He Hf Hg Hs Hp HY HV]
  · isplitl [Ha Hb Hc Hd He Hf Hg Hs]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      iexact Hs
    isplitl [Hp]; · iexact Hp
    isplitl [HV]; · unfold paired; iexact HV
    unfold Yk; iexact HY
  isplitl [HO]; · iapply (owesAt_make (dat1 m c) t1_0.succ 0 rfl rfl); iexact HO
  isplitl [H0]; · iexact H0
  iexact H1

/-! ## The records -/

theorem pos_level {c : Dev nD} {g : GSem nD τ sig} {i : Unit} (h : 0 < O₀ c g i) : i ∈ L g ∧ 0 < lv g i := by
  rcases O₀_pos h with ⟨k, hk, rfl⟩ | rfl | rfl
  · exact ⟨by rw [L_tc]; exact Finset.mem_singleton_self _, by rw [lv_r k hk]; omega⟩
  · exact ⟨by rw [L_tc]; exact Finset.mem_singleton_self _, by show 0 < 1; decide⟩
  · exact ⟨by rw [L_tc]; exact Finset.mem_singleton_self _, by show 0 < 1; decide⟩

/-- The staging semaphores are numbers 0 to 7, at the lowest level. -/
theorem stage_low0 (c : Dev nD) : ∀ (w : Fin cfg0.W) (s : Fin (cfg0.win w).nbuf), lv ((c : Thread nD τ), .dma ((cfg0.win w).sem s)) () ≤ 0 := by
  intro w s
  fin_cases w <;> exact le_rfl
theorem stage_low1 (c : Dev nD) : ∀ (w : Fin cfg1.W) (s : Fin (cfg1.win w).nbuf), lv ((c : Thread nD τ), .dma ((cfg1.win w).sem s)) () ≤ 0 := by
  intro w s
  fin_cases w <;> exact le_rfl

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem cut0 : Pipeline.LevelCut (pcfgs (F := F)) adm () L lv 0 O₀ fun _ => 0 where
  hι c w s := by rw [L_tc]; exact Finset.mem_singleton_self _
  hιb c w s := stage_low0 c w s
  hD c g i h := pos_level h

theorem cut1 : Pipeline.LevelCutOwed (pcfgs (F := F)) adm (pdats m) () L lv 1 fun _ => 0 where
  hι c w s := by rw [L_tc]; exact Finset.mem_singleton_self _
  hιb c w s := stage_low1 c w s
  hD c t g i h := by
    have e : (pdats m 1 c).owed t = if t.val = 0 then O₀ c else 0 := rfl
    rw [e] at h
    split at h
    · exact pos_level h
    · exact absurd h (Nat.lt_irrefl 0)

/-- What rides along beside the buffers, up to the second kernel, and after it. -/
def rides (c : Dev nD) : sProp 𝕄 := iprop(Tk m c ∗ ∃ r, prngReg c r)
def E : Fin 3 → Dev nD → sProp 𝕄 := fun i c => match i with
  | 2 => iprop(semVal (barCell c) 0 ∗ owesE (F := F) c 0)
  | _ => iprop(owesE (F := F) c (O₀ c) ∗ rides m c)

theorem arr_sub0 : Pipeline.arrRefs (τ := τ) (pcfgs (F := F) 0).spec ⊆ Pipeline.ucRefs τ sig := Pipeline.arrRefs_sub_ucRefs _ kit0.win.arr_unscoped
theorem arr_sub1 : Pipeline.arrRefs (τ := τ) (pcfgs (F := F) 1).spec ⊆ Pipeline.ucRefs τ sig := Pipeline.arrRefs_sub_ucRefs _ kit1.win.arr_unscoped

set_option backward.isDefEq.respectTransparency.types false in
def reg0 : Pipeline.RegionSeg (pcfgs (F := F)) adm (pdats m) () defs₀ 𝒱₀ L lv 0 :=
  Pipeline.RegionSeg.ofHeldIn (pcfgs (F := F)) adm (pdats m) () defs₀ 𝒱₀ L lv 0 O₀ (Pipeline.ucRefs τ sig) (fun _ => iprop(emp)) (fun _ => iprop(emp))
    kit0 rfl (fun c => (body0 m c).loose) (fun _ _ => rfl) (fun _ => rfl) (fun c w => (pdats m 0 c).share_full (fun _ => rfl) w)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) cut0 (rides m) (V1 m) (fun _ _ => rfl)

theorem pre0 (c : Dev nD) : iprop(StableHlo.held (c : Thread nD τ) (Pipeline.ucRefs τ sig) (V1 m c) ∗ E m 0 c) ⊢ (reg0 m).pre c := by
  refine .trans ?_ (Pipeline.RegionSeg.ofHeldIn_pre arr_sub0 c)
  show iprop(_ ∗ owesE (F := F) c (O₀ c) ∗ rides m c) ⊢ _
  unfold owesE
  iintro ⟨Hh, HO, HR⟩
  isplitl [Hh]; · iexact Hh
  isplitl [HO]; · iexact HO
  isplitr; · iempintro
  iexact HR

/-- The first kernel changes the array of its output window alone. -/
theorem left0 (c : Dev nD) : Pipeline.afterRegion (pdats m 0 c) (V1 m c) = V2 m (outs m) c := by
  funext b
  by_cases h : ∃ w : Fin cfg0.W, b = Proc.devRef .tc (Pipeline.arrRef cfg0.spec w)
  · obtain ⟨w, rfl⟩ := h
    refine (Pipeline.afterRegion_arr (dat0 m c) (V1 m c) winFacts0.arr_inj w).trans ?_
    by_cases hw : w = 5
    · subst hw; exact (arrAt0_5 m c).trans (V2_v20 m c).symm
    · have hin : (cfg0.win w).isOut = false := by revert w; decide
      have hne : Pipeline.arrRef cfg0.spec w ≠ main_v20 := fun e => hw (winFacts0.arr_inj e)
      have hold : V2 m (outs m) c (Proc.devRef .tc (Pipeline.arrRef cfg0.spec w))
          = V1 m c (Proc.devRef .tc (Pipeline.arrRef cfg0.spec w)) :=
        V2_of m (outs m) c _ (by simpa using hne)
      exact ((dat0 m c).arrAt_in w hin _).trans hold.symm
  · unfold Pipeline.afterRegion
    refine (dif_neg h).trans ?_
    exact (Function.update_of_ne (fun e => h ⟨5, e⟩) _ _).symm

theorem post0 (c : Dev nD) : (reg0 m).post c ⊢ iprop(StableHlo.held (c : Thread nD τ) (Pipeline.ucRefs τ sig) (V2 m (outs m) c) ∗ E m 1 c) := by
  refine (Pipeline.RegionSeg.ofHeldIn_post arr_sub0 c).trans ?_
  rw [left0]
  show _ ⊢ iprop(_ ∗ owesE (F := F) c (O₀ c) ∗ rides m c)
  unfold owesE
  iintro ⟨Hh, HO, -, HR⟩
  isplitl [Hh]; · iexact Hh
  isplitl [HO]; · iexact HO
  iexact HR

/-- The buffers that are no array of the second kernel's windows. -/
def others : Finset (DevRef τ sig) := Pipeline.ucRefs τ sig \ Pipeline.arrRefs (τ := τ) spec1

theorem v21_not_other : (Proc.devRef .tc main_v21 : DevRef τ sig) ∉ others := fun h =>
  (Finset.mem_sdiff.mp h).2 (Finset.mem_map.mpr ⟨_, Finset.mem_image.mpr ⟨1, Finset.mem_univ _, rfl⟩, rfl⟩)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem (by decide : Pipeline.OwnSemFacts spec1 osem)
    ∅ others (Finset.empty_subset _) kit1 rfl (fun c => (body1 m c).loose)
    (fun _ => 0) O₀ (fun c => (zero_add (O₀ c)).symm) (fun _ => rfl) (fun _ => rfl) (fun c w => (pdats m 1 c).share_full (fun _ => rfl) w)
    (V2 m (outs m)) (V3 m (outs m))
    (fun c b hb => Function.update_of_ne (a := b) (a' := Proc.devRef .tc main_v21) (fun e => by subst e; exact v21_not_other (Finset.mem_sdiff.mp hb).1) _ _)
    (Tk m) Yk (Xk m) Yk (hopen m)
    (fun c => by
      show _ ⊢ iprop(Pipeline.scopedRest spec1 c ∗ (∃ r, prngReg c r) ∗ Xk m c)
      iintro ⟨Hs, Hp, -, HX⟩
      isplitl [Hs]; · iexact Hs
      isplitl [Hp]; · iexact Hp
      iexact HX)
    (fun c => by
      show iprop(Pipeline.scopedRest spec1 c ∗ (∃ r, prngReg c r) ∗ Pipeline.ownSems0 osem c ∗ Yk c) ⊢ _
      iintro ⟨Hs, Hp, HV, HY⟩
      isplitl [Hs]; · iexact Hs
      isplitl [Hp]; · iexact Hp
      isplitr
      · unfold StableHlo.held; rw [bigSep_empty]; iempintro
      isplitl [HV] <;> iassumption)
    (fun c => by iintro H; imodintro; iexact H)
    (fun _ => 0) (cut1 m) (fun _ => iprop(emp))
    (fun _ _ => rfl)
    (fun c w => by
      fin_cases w
      · exact ((dat1 m c).arrAt_in 0 rfl _).trans (V3_of m (outs m) c main_v20 (by decide)).symm
      · exact (arrAt1_1 m c).trans (V3_v21 m c).symm)

theorem pre1 (c : Dev nD) : iprop(StableHlo.held (c : Thread nD τ) (Pipeline.ucRefs τ sig) (V2 m (outs m) c) ∗ E m 1 c) ⊢ (reg1 m).pre c := by
  show iprop(_ ∗ owesE (F := F) c (O₀ c) ∗ rides m c) ⊢ iprop(StableHlo.held (c.tc : Thread nD τ) (Pipeline.arrRefs (pcfgs (F := F) 1).spec) (V2 m (outs m) c) ∗ (∃ r, prngReg c r)
    ∗ (StableHlo.held (c.tc : Thread nD τ) others (V2 m (outs m) c) ∗ emp) ∗ Tk m c ∗ ∃ Wd, owes (c : Thread nD τ) (0 + O₀ c) Wd)
  rw [StableHlo.held_sub_split (c.tc : Thread nD τ) (arr_sub1 (F := F)) (V2 m (outs m) c), zero_add]
  unfold owesE rides
  iintro ⟨⟨Ha, Hr⟩, HO, HT, Hp⟩
  isplitl [Ha]; · iexact Ha
  isplitl [Hp]; · iexact Hp
  isplitl [Hr]
  · isplitl [Hr]; · iexact Hr
    iempintro
  isplitl [HT]; · iexact HT
  iexact HO

theorem post1 (c : Dev nD) : (reg1 m).post c ⊢ iprop(StableHlo.held (c : Thread nD τ) (Pipeline.ucRefs τ sig) (V3 m (outs m) c) ∗ E m 2 c) := by
  show iprop(StableHlo.held (c.tc : Thread nD τ) (Pipeline.arrRefs (pcfgs (F := F) 1).spec) (V3 m (outs m) c) ∗ (∃ r, prngReg c r)
    ∗ (StableHlo.held (c.tc : Thread nD τ) others (V3 m (outs m) c) ∗ emp) ∗ Yk c ∗ ∃ Wd, owes (c : Thread nD τ) (0 : CellTallies nD τ sig Unit) Wd)
    ⊢ iprop(_ ∗ semVal (barCell c) 0 ∗ owesE (F := F) c 0)
  rw [StableHlo.held_sub_split (c.tc : Thread nD τ) (arr_sub1 (F := F)) (V3 m (outs m) c)]
  unfold owesE Yk
  iintro ⟨Ha, -, ⟨Hr, -⟩, HY, HO⟩
  isplitl [Ha Hr]
  · isplitl [Ha]; · iexact Ha
    iexact Hr
  isplitl [HY]; · iexact HY
  iexact HO

end Cert.KernelIdealProof
-- ==== Proof.KernelIdeal.Run.lean ====
/- The launch and the run of the whole program: every semaphore's record allocated, each device dealt
its share, and what the memory holds at the end. -/
module

public import proofs.«01_k».proof.Proof.KernelIdeal.Records

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tokens -/

/-- The fourteen duties at a device: one at each transfer semaphore, two at the barrier. -/
def duty : Fin 14 → SemLoc sig × Bool := fun k =>
  if h : k.val < 12 then (osem ⟨k.val, h⟩, false) else (.reg barrier0, decide (k.val = 13))
theorem duty_inj : Function.Injective duty := by decide

def dutyEmb : Dev nD × Fin 14 ↪ GSem nD τ sig × ℕ × Bool :=
  ⟨fun ck => (((ck.1 : Thread nD τ), (duty ck.2).1), 0, (duty ck.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩
def ringToks : Finset (GSem nD τ sig × ℕ × Bool) := Finset.univ.map dutyEmb

theorem cells_disjoint : Disjoint (barCells : Finset (GSem nD τ sig)) stepCells :=
  Finset.disjoint_left.mpr fun g h₁ h₂ => by
    obtain ⟨c, -, rfl⟩ := Finset.mem_map.mp h₁
    obtain ⟨cq, -, h⟩ := Finset.mem_map.mp h₂
    exact osem_ne_bar cq.2 (congrArg Prod.snd h)

theorem toks_split : bigSep ringToks (fun x => (dutyTok ER x.1 x.2.1 x.2.2 : sProp 𝕄))
    ⊢ bigSep Finset.univ fun c : Dev nD =>
      iprop(dutyTok ER (barCell c) 0 true ∗ dutyTok ER (barCell c) 0 false ∗ sToks (F := F) c ∗ rToks (F := F) c) := by
  unfold ringToks
  rw [bigSep_map, bigSep_univ_prod]
  refine bigSep_mono fun c _ => ?_
  rw [bigSep_univ_eq_bigSepL [(13 : Fin 14), 12, 0, 1, 2, 6, 7, 8, 3, 4, 5, 9, 10, 11] (by decide) (by decide)]
  unfold sToks rToks
  show iprop(dutyTok ER (barCell c) 0 true ∗ dutyTok ER (barCell c) 0 false
      ∗ dutyTok ER (sCell 0 c) 0 false ∗ dutyTok ER (sCell 1 c) 0 false ∗ dutyTok ER (sCell 2 c) 0 false
      ∗ dutyTok ER (sCell 3 c) 0 false ∗ dutyTok ER (sCell 4 c) 0 false ∗ dutyTok ER (sCell 5 c) 0 false
      ∗ dutyTok ER (rCell 0 c) 0 false ∗ dutyTok ER (rCell 1 c) 0 false ∗ dutyTok ER (rCell 2 c) 0 false
      ∗ dutyTok ER (rCell 3 c) 0 false ∗ dutyTok ER (rCell 4 c) 0 false ∗ dutyTok ER (rCell 5 c) 0 false) ⊢ _
  iintro ⟨Hb1, Hb2, H0, H1, H2, H3, H4, H5, HR⟩
  isplitl [Hb1]; · iexact Hb1
  isplitl [Hb2]; · iexact Hb2
  isplitl [H0 H1 H2 H3 H4 H5]
  · isplitl [H0]; · iexact H0
    isplitl [H1]; · iexact H1
    isplitl [H2]; · iexact H2
    isplitl [H3]; · iexact H3
    isplitl [H4] <;> iassumption
  iexact HR

/-- The tokens at the barrier and at the receiving semaphores go to the devices that pay there. -/
theorem toks_dealt :
    (bigSep Finset.univ fun c : Dev nD =>
      iprop(dutyTok ER (barCell c) 0 true ∗ dutyTok ER (barCell c) 0 false ∗ sToks (F := F) c ∗ rToks (F := F) c))
    ⊢ bigSep Finset.univ fun c : Dev nD =>
      iprop((dutyTok ER (barCell (sh c 3)) 0 true ∗ dutyTok ER (barCell (sh c 1)) 0 false) ∗ sToks (F := F) c ∗ rToks (F := F) (sh c 1)) := by
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => rToks (F := F) c)]
  iintro ⟨H1, H2, H3, H4⟩
  isplitl [H1 H2]
  · isplitl [H1]; · iexact H1
    iexact H2
  isplitl [H3]; · iexact H3
  iexact H4

theorem dealt_intro (c : Dev nD) :
    iprop(atPos ER (barCell c) 0 ∅ 0 ∗ paired (F := F) (fun sm => openTok ER ((c : Thread nD τ), sm))
      ∗ (dutyTok ER (barCell (sh c 3)) 0 true ∗ dutyTok ER (barCell (sh c 1)) 0 false) ∗ sToks (F := F) c ∗ rToks (F := F) (sh c 1))
    ⊢ (dealt c : sProp 𝕄) := by
  unfold dealt
  iintro ⟨Ha, Ho, Hb, Hs, Hr⟩
  isplitl [Ha]; · iexact Ha
  isplitl [Hb]; · iexact Hb
  isplitl [Ho]; · iexact Ho
  isplitl [Hs] <;> iassumption

/-! ## The credit launched -/

theorem left_right (c d : Dev nD) : c = sh d 1 ↔ d = sh c 3 := by revert c d; decide
theorem right_left (c d : Dev nD) : c = sh d 3 ↔ d = sh c 1 := by revert c d; decide
theorem rS_inj : ∀ a b : Fin 6, rS a.val = rS b.val → a = b := by decide

theorem rCell_eq {k l : ℕ} (hk : k < 6) (hl : l < 6) {c d : Dev nD} (h : rCell k c = rCell l d) : k = l ∧ c = d := by
  have hs : rS k = rS l := SemLoc.dma.inj (congrArg Prod.snd h)
  exact ⟨congrArg Fin.val (rS_inj ⟨k, hk⟩ ⟨l, hl⟩ hs), congrArg (fun g : GSem nD τ sig => g.1.1) h⟩

/-- What device `d` owes at the receiving semaphore of step `k` of device `c`. -/
theorem owed_step (c d : Dev nD) {n k : ℕ} (hn : n ≤ 6) (hk : k < 6) :
    Or d n (rCell k c) () = if d = sh c 3 ∧ 6 - n ≤ k then N else 0 := by
  induction n with
  | zero => rw [if_neg fun h => by omega]; rfl
  | succ n ih =>
    rw [Or_succ, Pi.add_apply, Finsupp.add_apply, ih (by omega), tallyAt_apply]
    by_cases hd : d = sh c 3
    · have hc := (left_right c d).mpr hd
      by_cases h5 : k = 5 - n
      · rw [if_neg fun h => by omega, if_pos ⟨by rw [h5, ← hc], rfl⟩, if_pos ⟨hd, by omega⟩, Nat.zero_add]
      · rw [if_neg (c := _ ∧ () = ()) fun h => h5 (rCell_eq hk (by omega) h.1).1, Nat.add_zero]
        by_cases h6 : 6 - n ≤ k
        · rw [if_pos ⟨hd, h6⟩, if_pos ⟨hd, by omega⟩]
        · rw [if_neg fun h => h6 h.2, if_neg fun h => by omega]
    · have h1 (a : ℕ) : ¬(d = sh c 3 ∧ a ≤ k) := fun h => hd h.1
      have h2 : ¬(rCell k c = rCell (5 - n) (sh d 1) ∧ () = ()) := fun h => hd ((left_right c d).mp (rCell_eq hk (by omega) h.1).2)
      rw [if_neg (h1 _), if_neg (h1 _), if_neg h2]

theorem owed_r (c d : Dev nD) {k : ℕ} (hk : k < 6) : O₀ d (rCell k c) () = if d = sh c 3 then N else 0 := by
  unfold O₀ O₁
  rw [Pi.add_apply, Finsupp.add_apply, Pi.add_apply, Finsupp.add_apply, tallyAt_apply, tallyAt_apply, owed_step c d le_rfl hk,
    if_neg (c := _ ∧ () = ()) (fun h => by cases congrArg Prod.snd h.1), if_neg (c := _ ∧ () = ()) (fun h => by cases congrArg Prod.snd h.1)]
  simp

theorem owed_bar (c d : Dev nD) : O₀ d (barCell c) () = (if d = sh c 3 then 1 else 0) + if d = sh c 1 then 1 else 0 := by
  have h0 : Or d 6 (barCell c) () = 0 := by
    by_contra h
    obtain ⟨k, -, -, h3⟩ := Or_pos le_rfl (Nat.pos_of_ne_zero h)
    cases congrArg Prod.snd h3
  have hb (n : ℕ) : (barCell c = barCell (sh d n) ∧ () = ()) ↔ c = sh d n :=
    ⟨fun h => congrArg (fun g : GSem nD τ sig => g.1.1) h.1, fun h => ⟨by rw [← h], rfl⟩⟩
  unfold O₀ O₁
  rw [Pi.add_apply, Finsupp.add_apply, Pi.add_apply, Finsupp.add_apply, tallyAt_apply, tallyAt_apply, h0, Nat.zero_add]
  rw [if_congr ((hb 1).trans (left_right c d)) rfl rfl, if_congr ((hb 3).trans (right_left c d)) rfl rfl]

theorem launched_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (sh c 3) fun _ => 1, Finset.sum_ite_eq' Finset.univ (sh c 1) fun _ => 1,
    if_pos (Finset.mem_univ _), if_pos (Finset.mem_univ _)]

theorem launched_r (c : Dev nD) {k : ℕ} (hk : k < 6) :
    tallyOn (rCell k c) (launchCredit (Pipeline.owing O₀) 0 (rCell k c)) = (tallyAt (rCell k c) () N : CellTallies nD τ sig Unit) := by
  unfold tallyAt; refine congrArg _ (Finsupp.ext fun u => ?_); cases u
  rw [Pipeline.launchCredit_owing, Finsupp.single_eq_same, Finset.sum_congr rfl fun d _ => owed_r c d hk,
    Finset.sum_ite_eq' Finset.univ (sh c 3) fun _ => N, if_pos (Finset.mem_univ _)]

/-- The semaphores that other devices signal. -/
def signalled : List (SemLoc sig) :=
  [.reg barrier0, .dma (rS 0), .dma (rS 1), .dma (rS 2), .dma (rS 3), .dma (rS 4), .dma (rS 5)]

theorem creds (c : Dev nD) :
    (Pipeline.launchCred O₀ c : sProp 𝕄) ⊢ iprop(cred (tallyAt (barCell c) () 2) ∗ rCreds (F := F) c) := by
  unfold Pipeline.launchCred rCreds
  refine (bigSep_subset (t := signalled.toFinset) (Finset.subset_univ _)).trans ?_
  rw [bigSep_eq_bigSepL signalled (by decide), ← launched_bar, ← launched_r c (k := 0) (by decide), ← launched_r c (k := 1) (by decide),
    ← launched_r c (k := 2) (by decide), ← launched_r c (k := 3) (by decide), ← launched_r c (k := 4) (by decide), ← launched_r c (k := 5) (by decide)]
  exact BI.Entails.refl _

/-! ## The launch -/

theorem launch_sems (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

def u₀ : UU :=
  (initOf (Pipeline.cells (Pipeline.pin (pcfgs (F := F)) adm) cellOf_inj) (Pipeline.launchToks (Pipeline.pin (pcfgs (F := F)) adm) cellOf_inj),
    launchOf barCells stepCells ringToks)

/-- A resource given to device 0 alone. -/
def atZero (X : sProp 𝕄) (c : Dev nD) : sProp 𝕄 := if c = 0 then X else iprop(emp)
theorem bigSep_atZero (X : sProp 𝕄) : bigSep Finset.univ (atZero X) = X := by
  rw [bigSep_univ_eq_bigSepL [(0 : Dev nD), 1, 2, 3] (by decide) (by decide)]
  apply BI.equiv_iff.mp
  constructor
  · show iprop(X ∗ emp ∗ emp ∗ emp) ⊢ X
    iintro ⟨H, -⟩; iexact H
  · show X ⊢ iprop(X ∗ emp ∗ emp ∗ emp)
    iintro H
    isplitl [H]; · iexact H
    isplitr; · iempintro
    isplitr <;> iempintro

def G : Dev nD → sProp 𝕄 := atZero (BI.own (ER (launchOf barCells stepCells ringToks)))

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V4 m (outs m) c) ∗ semVal (barCell c) 0)

/-- What a device holds at launch beside the protocol's ghost state. -/
def own (c : Dev nD) : sProp 𝕄 :=
  iprop(StableHlo.held (c : Thread nD τ) (Pipeline.ucRefs τ sig) (V0 m c) ∗ (cred (tallyAt (barCell c) () 2) ∗ rCreds c)
    ∗ owes (c : Thread nD τ) (O₀ c) ∅ ∗ ∃ r, prngReg c r)

theorem start_intro (κ : GSem nD τ sig → ℕ) (c : Dev nD) : iprop(recs (part m) κ ∗ (dealt c ∗ own m c)) ⊢ T₀ m c := by
  show _ ⊢ iprop(_ ∗ owesE (F := F) c (O₀ c) ∗ rides m c)
  unfold own rides Tk owesE
  iintro ⟨#HR, Hd, Hh, Hc, HO, Hp⟩
  isplitl [Hh]; · iexact Hh
  isplitl [HO]; · iexists ∅; iexact HO
  isplitr [Hp]
  · isplitl [Hd]
    · iexists κ
      isplitr; · iexact HR
      iexact Hd
    iexact Hc
  iexact Hp

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(own m c ∗ (semVal (barCell c) 0 ∗ G (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      launch_sems]
    unfold own
    iintro ⟨Hh, Hs, HO, Hc, Hp, HG⟩
    isplitr [Hs HG]
    · isplitl [Hh]; · iexact Hh
      isplitl [Hc]; · iapply (creds (F := F) c); iexact Hc
      isplitl [HO]; · iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep stepCells (fun g => (openTok ER g : sProp 𝕄))
      ⊢ bigSep Finset.univ (fun c : Dev nD => paired (F := F) (fun sm => openTok ER ((c : Thread nD τ), sm))) :=
    Entails.of_eq (by
      rw [bigSep_map, bigSep_univ_prod]
      exact bigSep_congr fun c _ => paired_eq (F := F) (fun sm => openTok ER ((c : Thread nD τ), sm)))
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop(bigSep Finset.univ (own m) ∗ bigSep Finset.univ (fun c : Dev nD => semVal (barCell c) 0) ∗ bigSep Finset.univ (G (F := F))) : sProp 𝕄) from by
        rw [← bigSep_sep', ← bigSep_sep']; exact bigSep_mono fun c _ => hcore c) $$ H
  icases H1 with ⟨HB, Hv, HG⟩
  ihave Hu := (show bigSep Finset.univ (G (F := F)) ⊢ BI.own (ER (launchOf barCells stepCells ringToks)) from
    Entails.of_eq (bigSep_atZero (F := F) _)) $$ HG
  imod (Rounds.fund_launch ER (ringRd (part m)) cells_disjoint (fun g _ h => h) ringToks) $$ [Hv Hu] with ⟨%κ, -, #Hinv, #Hr, Hat, Hop, Htok⟩
  · isplitl [Hv]
    · iapply hv; iexact Hv
    · iexact Hu
  imodintro
  iapply (bigSep_with_persistent (R := recs (part m) κ) (Φ := fun c => iprop(dealt c ∗ own m c)) fun c _ => start_intro m κ c)
  isplitr
  · unfold recs
    isplitr; · iexact Hinv
    iexact Hr
  rw [bigSep_sep']
  isplitr [HB]
  · ihave Hat' := hat $$ Hat
    ihave Hop' := hop $$ Hop
    ihave Ht1 := (toks_split (F := F)) $$ Htok
    ihave Ht2 := (toks_dealt (F := F)) $$ Ht1
    iapply (show iprop(bigSep Finset.univ (fun c : Dev nD => (atPos ER (barCell c) 0 ∅ 0 : sProp 𝕄))
        ∗ bigSep Finset.univ (fun c : Dev nD => paired (F := F) (fun sm => openTok ER ((c : Thread nD τ), sm)))
        ∗ bigSep Finset.univ (fun c : Dev nD =>
          iprop((dutyTok ER (barCell (sh c 3)) 0 true ∗ dutyTok ER (barCell (sh c 1)) 0 false) ∗ sToks (F := F) c ∗ rToks (F := F) (sh c 1))))
        ⊢ bigSep Finset.univ (fun c : Dev nD => dealt (F := F) c) from by
      rw [← bigSep_sep', ← bigSep_sep']
      exact bigSep_mono fun c _ => dealt_intro c)
    isplitl [Hat']; · iexact Hat'
    isplitl [Hop']; · iexact Hop'
    iexact Ht2
  · iexact HB

/-! ## The run -/

theorem unscoped_eq : ∀ sm : SemLoc sig, sm.isScoped .tc = false → sm = .reg barrier0 := by decide

/-- The arguments are unchanged and the result holds what the last stretch computes. -/
def Ended (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v22) = V4 m (outs m) c main_v22

theorem ended_of (c : Dev nD) (s : MemSt nD τ sig (Elt F))
    (h : ∀ b ∈ Pipeline.ucRefs τ sig, s.mem ((c : Thread nD τ).1, b) = V4 m (outs m) c b) : Ended m c s := by
  have hr (r : Ref sig .tc) (hs : (Proc.devRef .tc r : DevRef τ sig).isScoped = false) :
      s.mem ((c.tc : Thread nD τ).loc r) = V4 m (outs m) c r :=
    h (Proc.devRef .tc r) (Finset.mem_filter.mpr ⟨StableHlo.devRef_mem_tcRefs r, by simpa using hs⟩)
  exact ⟨⟨(hr main_arg0 (by decide)).trans (V4_main_arg0 m (outs m) c), (hr main_arg1 (by decide)).trans (V4_main_arg1 m (outs m) c),
    (hr main_arg2 (by decide)).trans (V4_main_arg2 m (outs m) c), (hr main_arg3 (by decide)).trans (V4_main_arg3 m (outs m) c),
    (hr main_arg4 (by decide)).trans (V4_main_arg4 m (outs m) c)⟩, hr main_v22 (by decide)⟩

set_option backward.isDefEq.respectTransparency.types false in
/-- Every fair execution of the program on the four devices ends, with the arguments unchanged, the
result as computed, and every semaphore counter at zero. -/
theorem run_main (ρ : Dev nD → PrngReg) : θ_run defs (onTc (τ := τ) (main (F := F))) ⟨m, fun _ => 0, ρ⟩
    (fun r => (∀ c : Dev nD, Ended m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Pipeline.Seg.run_eq_chain,
        show (segs m (outs m) 𝒱₀ L lv (E m) () (pdats m) (reg0 m) (reg1 m) c).map Pipeline.Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := fun c => ⟨.rfl, pre0 m c, (post0 m c).trans (pre1 m c), post1 m c, by
      show iprop(StableHlo.held (c : Thread nD τ) (Pipeline.ucRefs τ sig) (V4 m (outs m) c) ∗ semVal (barCell c) 0 ∗ owesE (F := F) c 0) ⊢ _
      unfold owesE
      iintro ⟨Hh, Hb, HO⟩
      isplitr [HO]
      · isplitl [Hh] <;> iassumption
      · iexact HO⟩)
    (hinit := init m ρ)
    (QY := fun c s => Ended m c s ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨ended_of m c _ h, by simpa using hb⟩
      · iexact HSI)
    (hQ := fun s h hs => ⟨fun c => (h c).1, sem_eq_zero hs fun c sm hsm => by
      obtain rfl := unscoped_eq sm hsm
      exact (h c).2⟩)

end Cert.KernelIdealProof
-- ==== Proof.Value.Host.lean ====
/- What the host hands a device, at an index of the device's arguments. -/
module

public import proofs.«01_k».proof.Proof.KernelIdeal.Records
public import Idealize.ShloMosaic.Lib.Pointwise
public import Idealize.ShloMosaic.Lib.StableHlo.ReadAt

@[expose] public section

set_option maxRecDepth 16384

noncomputable section

namespace Cert.KernelIdealProof

open Cert.KernelIdeal Cert.KernelIdeal.Gen
open Idealize.ShloMosaic
open Idealize.ShloMosaic.TcCoe

variable (m : (ℓ : Loc nD τ sig) → Buf (Elt Ideal) ℓ) (c : Dev nD)

/-- Where device `c`'s block of 1024 starts, as the host computes it. -/
def start (c : Dev nD) : BitVec 32 :=
  let s := IntOp.muli (IntOp.remui .host (IntOp.divui .host (Dev.word c) 1#32) 4#32) 1024#32
  Scalar.select (IntOp.cmpi .slt s 0#32) (IntOp.addi s 4096#32) s
theorem start_eq (c : Dev nD) : (min (max (start c).toInt 0) ((4096 - 1024 : ℕ) : ℤ)).toNat = 1024 * c.val := by
  revert c
  decide +kernel

theorem V1_v5_apply (i : Fin 2048) (e : Fin 1024) :
    (V1 m c main_v5 : FVec Ideal S2048x1024 .f32) (ix2 i e) = (m ((c.tc : Thread nD τ).loc main_arg0) : FVec Ideal S1x2048x1024 .f32) (ix3 0 i e) := by
  unfold V1
  after_reads_at

theorem V1_v10_apply (e n : Fin 1024) :
    (V1 m c main_v10 : FVec Ideal S1024x1024 .f32) (ix2 e n) = (m ((c.tc : Thread nD τ).loc main_arg1) : FVec Ideal S1024x4096 .f32) (ix2 e ⟨1024 * c.val + n.val, by have : c.val < 4 := c.isLt; omega⟩) := by
  unfold V1
  after_reads_at
  refine congrArg (m ((c.tc : Thread nD τ).loc main_arg1) : FVec Ideal S1024x4096 .f32) ((ix2_inj _ _ _ _).mpr ⟨Fin.ext ?_, Fin.ext ?_⟩)
  · dsimp only [Host.clampedStart, Matrix.cons_val_zero, Matrix.cons_val_one]
    after_reads_simp
    exact Nat.zero_add _
  · dsimp only [Host.clampedStart, Matrix.cons_val_zero, Matrix.cons_val_one]
    after_reads_simp
    exact congrArg (· + _) (start_eq c)

theorem V1_v15_apply (e n : Fin 1024) :
    (V1 m c main_v15 : FVec Ideal S1024x1024 .f32) (ix2 e n) = (m ((c.tc : Thread nD τ).loc main_arg4) : FVec Ideal S4096x1024 .f32) (ix2 ⟨1024 * c.val + e.val, by have : c.val < 4 := c.isLt; omega⟩ n) := by
  unfold V1
  after_reads_at
  refine congrArg (m ((c.tc : Thread nD τ).loc main_arg4) : FVec Ideal S4096x1024 .f32) ((ix2_inj _ _ _ _).mpr ⟨Fin.ext ?_, Fin.ext ?_⟩)
  · dsimp only [Host.clampedStart, Matrix.cons_val_zero, Matrix.cons_val_one]
    after_reads_simp
    exact congrArg (· + _) (start_eq c)
  · dsimp only [Host.clampedStart, Matrix.cons_val_zero, Matrix.cons_val_one]
    after_reads_simp
    exact Nat.zero_add _

theorem V1_v17_apply (h : Fin 8) (j : Fin 2048) (d : Fin 128) :
    (V1 m c main_v17 : FVec Ideal S8x2048x128 .f32) (ix3 h j d) = (m ((c.tc : Thread nD τ).loc main_arg2) : FVec Ideal S1x2048x8x128 .f32) (ix4 0 j h d) := by
  unfold V1
  after_reads_at

theorem V1_v19_apply (h : Fin 8) (j : Fin 2048) (d : Fin 128) :
    (V1 m c main_v19 : FVec Ideal S8x2048x128 .f32) (ix3 h j d) = (m ((c.tc : Thread nD τ).loc main_arg3) : FVec Ideal S1x2048x8x128 .f32) (ix4 0 j h d) := by
  unfold V1
  after_reads_at

theorem V4_v22_apply (o : Outs (F := Ideal)) (i : Fin 2048) (n : Fin 1024) :
    (V4 m o c main_v22 : FVec Ideal S1x2048x1024 .f32) (ix3 0 i n) = (V3 m o c main_v21 : FVec Ideal S2048x1024 .f32) (ix2 i n) := by
  unfold V4
  after_reads_at

end Cert.KernelIdealProof
-- ==== Proof.Value.Spec.lean ====
/- Block-sparse attention over the extended reals, row by row: the one function that the kernel's devices and
the reference are both shown to compute. -/
module

public import Idealize.ShloMosaic.Lib.Pointwise

@[expose] public section

noncomputable section

namespace Cert.AttnValue

open Idealize.ShloMosaic

abbrev R : Type := Ideal .f32

/-- Whether row `i` attends to row `j`: the same block of 64, the first block, or block numbers adding to a multiple of three. -/
def attends (i j : ℕ) : BitVec 1 :=
  BitVec.ofBool (decide (i / 64 = j / 64 ∨ j / 64 = 0 ∨ (i / 64 + j / 64) % 3 = 0))

/-- A row's queries, for the columns of one head. -/
def query (x : Fin 1024 → R) (w : Fin 1024 → Fin 128 → R) (d : Fin 128) : R := ∑ e : Fin 1024, x e * w e d
/-- The row's scores, those it does not attend to replaced by a large negative number. -/
def score (i : ℕ) (q : Fin 128 → R) (k : Fin 2048 → Fin 128 → R) (j : Fin 2048) : R :=
  Scalar.select (attends i j.val) ((∑ d : Fin 128, q d * k j d) * Ideal.ofBits .f32 0x3DB504F3#32) (Ideal.ofBits .f32 0xCE6E6B28#32)
/-- The exponentials of a row less its maximum. -/
def expo (s : Fin 2048 → R) (j : Fin 2048) : R :=
  Ideal.exp (s j - Finset.univ.fold max (Ideal.ofBits .f32 0xFF800000#32) s)
/-- The row's context for one head. -/
def context (i : ℕ) (q : Fin 128 → R) (k v : Fin 2048 → Fin 128 → R) (d : Fin 128) : R :=
  ∑ j : Fin 2048, Ideal.div (expo (score i q k) j) (∑ j' : Fin 2048, expo (score i q k) j') * v j d

end Cert.AttnValue
-- ==== Proof.Value.Device.lean ====
/- What one device computes, at an index. -/
module

public import proofs.«01_k».proof.Proof.KernelIdeal.Attn
public import proofs.«01_k».proof.Proof.Value.Spec

@[expose] public section

set_option maxRecDepth 16384

noncomputable section

namespace Cert.KernelIdealProof

open Cert.KernelIdeal Cert.KernelIdeal.Gen
open Idealize.ShloMosaic
open Cert.AttnValue

theorem queryV_apply (x : Vec Ideal S256x1024 .f32) (w : Vec Ideal S1024x1024 .f32) (r : Fin 256) (n : Fin 1024) :
    queryV x w (ix2 r n) = ∑ e : Fin 1024, x (ix2 r e) * w (ix2 e n) := by
  pointwise [queryV]

theorem projV_apply (x : Vec Ideal S256x1024 .f32) (w : Vec Ideal S1024x1024 .f32) (r : Fin 256) (n : Fin 1024) :
    projV x w (ix2 r n) = ∑ e : Fin 1024, x (ix2 r e) * w (ix2 e n) := by
  pointwise [projV]

theorem scoreV_apply (h : Fin 8) (q : FVec Ideal S256x1024 .f32) (k : Vec Ideal S1x2048x128 .f32) (r : Fin 256) (j : Fin 2048) :
    scoreV h q k (ix2 r j) = (∑ d : Fin 128, q (ix2 r ⟨128 * h.val + d.val, by omega⟩) * k (ix3 0 j d)) * Ideal.ofBits .f32 0x3DB504F3#32 := by
  pointwise [scoreV]

theorem expV_apply (s : FVec Ideal S256x2048 .f32) (r : Fin 256) (j : Fin 2048) :
    expV s (ix2 r j) = expo (fun j => s (ix2 r j)) j := by
  pointwise [expV, expo]

theorem normV_apply (s : FVec Ideal S256x2048 .f32) (r : Fin 256) (j : Fin 2048) :
    normV s (ix2 r j) = Ideal.div (s (ix2 r j)) (∑ j' : Fin 2048, s (ix2 r j')) := by
  pointwise [normV]

theorem headV_apply (qb h : Fin 8) (q : FVec Ideal S256x1024 .f32) (k v : Vec Ideal S1x2048x128 .f32) (r : Fin 256) (d : Fin 128) :
    headV qb h q k v (ix2 r d) = ∑ j : Fin 2048, normV (expV (maskedV qb (scoreV h q k))) (ix2 r j) * v (ix3 0 j d) := by
  pointwise [headV]

/-- Division by 64 rounded down, on the words of the numbers below 2048. -/
theorem floor64_apply (v : IVec S256x2048 32) (i : S256x2048.Idx) (n : Fin 2048) (hv : v i = BitVec.ofNat 32 n.val) :
    floor64 v i = BitVec.ofNat 32 (n.val / 64) := by
  pointwise [floor64]
  rw [hv]
  clear hv v i
  revert n
  decide +kernel

theorem rowB_apply (qb : Fin 8) (r : Fin 256) (j : Fin 2048) : rowB qb (ix2 r j) = BitVec.ofNat 32 ((256 * qb.val + r.val) / 64) := by
  have e := floor64_apply (iota .tc S256x2048 32 [0] iota_S256x2048_d0_w32) (ix2 r j) ⟨r.val, by omega⟩ (by pointwise)
  pointwise [rowB]
  rw [e]
  show BitVec.ofNat 32 (r.val / 64) + BitVec.ofNat 32 (4 * qb.val) = _
  rw [← BitVec.ofNat_add]
  congr 1
  omega

theorem colB_apply (r : Fin 256) (j : Fin 2048) : colB (ix2 r j) = BitVec.ofNat 32 (j.val / 64) :=
  floor64_apply _ _ j (by pointwise)

/-- The test on block numbers, on their words. -/
theorem attends_words : ∀ m n : Fin 32,
    IntOp.ori (IntOp.ori (IntOp.cmpi .eq (BitVec.ofNat 32 m.val) (BitVec.ofNat 32 n.val)) (IntOp.cmpi .eq (BitVec.ofNat 32 n.val) 0#32))
      (IntOp.cmpi .eq (IntOp.remsi .vector (IntOp.addi (BitVec.ofNat 32 m.val) (BitVec.ofNat 32 n.val)) 3#32) 0#32)
      = BitVec.ofBool (decide (m.val = n.val ∨ n.val = 0 ∨ (m.val + n.val) % 3 = 0)) := by
  decide +kernel

theorem maskV_apply (qb : Fin 8) (r : Fin 256) (j : Fin 2048) : maskV qb (ix2 r j) = attends (256 * qb.val + r.val) j.val := by
  have a := rowB_apply qb r j
  have b := colB_apply r j
  pointwise [maskV]
  rw [a, b]
  unfold attends
  have ha : (256 * qb.val + r.val) / 64 < 32 := by omega
  have hb : j.val / 64 < 32 := by omega
  generalize (256 * qb.val + r.val) / 64 = m at ha
  generalize j.val / 64 = n at hb
  exact attends_words ⟨m, ha⟩ ⟨n, hb⟩

theorem maskedV_apply (qb h : Fin 8) (q : FVec Ideal S256x1024 .f32) (k : Vec Ideal S1x2048x128 .f32) (r : Fin 256) (j : Fin 2048) :
    maskedV qb (scoreV h q k) (ix2 r j)
      = score (256 * qb.val + r.val) (fun d => q (ix2 r ⟨128 * h.val + d.val, by omega⟩)) (fun j d => k (ix3 0 j d)) j := by
  have a := maskV_apply qb r j
  have b := scoreV_apply h q k r j
  pointwise [maskedV]
  rw [a, b]
  rfl

theorem headV_eq (qb h : Fin 8) (q : FVec Ideal S256x1024 .f32) (k v : Vec Ideal S1x2048x128 .f32) (r : Fin 256) (d : Fin 128) :
    headV qb h q k v (ix2 r d) = context (256 * qb.val + r.val) (fun d => q (ix2 r ⟨128 * h.val + d.val, by omega⟩))
      (fun j d => k (ix3 0 j d)) (fun j d => v (ix3 0 j d)) d := by
  rw [headV_apply]
  unfold context
  simp only [normV_apply, expV_apply, maskedV_apply]

section Part
variable (x : Mat Ideal) (wq wo : FVec Ideal S1024x1024 .f32) (k v : FVec Ideal S8x2048x128 .f32)

/-- Row `i` of a device's context for head `h`. -/
def rowContext (i : Fin 2048) (h : Fin 8) (d : Fin 128) : R :=
  context i.val (query (fun e => x (ix2 i e)) (fun e d => wq (ix2 e ⟨128 * h.val + d.val, by omega⟩)))
    (fun j d => k (ix3 h j d)) (fun j d => v (ix3 h j d)) d

theorem rowsOf_apply (qb : Fin 8) (r : Fin 256) (e : Fin 1024) : rowsOf x qb (ix2 r e) = x (ix2 ⟨256 * qb.val + r.val, by omega⟩ e) := by
  show x ((rowsR qb).idx (ix2 r e)) = _
  congr 1
  funext a
  fin_cases a <;> apply Fin.ext
  · show 256 * qb.val + 1 * r.val = 256 * qb.val + r.val; omega
  · show 0 + 1 * e.val = e.val; omega
theorem keysOf_apply (h : Fin 8) (j : Fin 2048) (d : Fin 128) : keysOf k h (ix3 0 j d) = k (ix3 h j d) := by
  show k ((headR h).idx (ix3 0 j d)) = _
  congr 1
  funext a
  fin_cases a <;> apply Fin.ext
  · show h.val + 1 * 0 = h.val; omega
  · show 0 + 1 * j.val = j.val; omega
  · show 0 + 1 * d.val = d.val; omega
theorem valsOf_apply (h : Fin 8) (j : Fin 2048) (d : Fin 128) : valsOf v h (ix3 0 j d) = v (ix3 h j d) := keysOf_apply v h j d

theorem ctxHead_apply (qb h : Fin 8) (r : Fin 256) (d : Fin 128) :
    ctxHead x wq k v qb h (ix2 r d) = rowContext x wq k v ⟨256 * qb.val + r.val, by omega⟩ h d := by
  unfold ctxHead
  rw [headV_eq]
  simp only [queryV_apply, rowsOf_apply, keysOf_apply, valsOf_apply]
  rfl

theorem ctxOf_apply (qb : Fin 8) (r : Fin 256) (n : Fin 1024) :
    ctxOf x wq k v qb (ix2 r n) = rowContext x wq k v ⟨256 * qb.val + r.val, by omega⟩ ⟨n.val / 128, by omega⟩ ⟨n.val % 128, by omega⟩ := by
  rw [← ctxHead_apply]
  show ctxHead x wq k v qb _ _ = _
  congr 1
  funext a
  fin_cases a <;> apply Fin.ext
  · show r.val % 256 = r.val; omega
  · rfl

/-- What a device contributes, element by element. -/
theorem partialOf_apply (i : Fin 2048) (n : Fin 1024) :
    partialOf x wq wo k v (ix2 i n)
      = ∑ e : Fin 1024, rowContext x wq k v i ⟨e.val / 128, by omega⟩ ⟨e.val % 128, by omega⟩ * wo (ix2 e n) := by
  have e := projV_apply (ctxOf x wq k v ⟨i.val / 256, by omega⟩) wo ⟨i.val % 256, by omega⟩ n
  have hi : partialOf x wq wo k v (ix2 i n) = projV (ctxOf x wq k v ⟨i.val / 256, by omega⟩) wo (ix2 ⟨i.val % 256, by omega⟩ n) := by
    show projV (F := Ideal) _ (wo : Vec Ideal S1024x1024 .f32) _ = _
    congr 1
    funext a
    fin_cases a <;> apply Fin.ext
    · rfl
    · show n.val % 1024 = n.val; omega
  rw [hi, e]
  simp only [ctxOf_apply]
  refine Finset.sum_congr rfl fun e _ => ?_
  congr 2
  apply Fin.ext
  show 256 * (i.val / 256) + i.val % 256 = i.val
  omega

end Part

end Cert.KernelIdealProof
-- ==== Proof.Value.Reference.lean ====
/- What the reference computes, at an index. -/
module

public import proofs.«01_k».proof.Proof.Gen.ReferenceIdeal
public import proofs.«01_k».proof.Proof.Value.Spec
public import Idealize.ShloMosaic.Lib.Routing.OpsOrder

@[expose] public section

set_option maxRecDepth 16384

noncomputable section

namespace Cert.ReferenceIdealProof

open Cert.ReferenceIdeal Cert.ReferenceIdeal.Gen
open Idealize.ShloMosaic
open Idealize.ShloMosaic.TcCoe
open Cert.AttnValue

/-! ## The reference in steps -/

/-- The number of each position's block of 64. -/
def blockNo : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))
def blockRow : IVec S2048x1 32 := broadcastInDim S2048x1 ![0] bcast_S2048_S2048x1_0 blockNo
def blockCol : IVec S1x2048 32 := broadcastInDim S1x2048 ![1] bcast_S2048_S1x2048_1 blockNo
def three : IVec S_ 32 :=
  select (cmpi .eq (id (constantI S_ 32 3#32)) (constantI S_ 32 0#32)) (constantI S_ 32 1#32) (id (constantI S_ 32 3#32))
/-- The remainder modulo three of the sum of two block numbers. -/
def remOf (a : IVec S2048x2048 32) : IVec S2048x2048 32 := Host.remsi a (broadcastInDim S2048x2048 ![] bcast_S_S2048x2048 three)
def zeros : IVec S2048x2048 32 := broadcastInDim S2048x2048 ![] bcast_S_S2048x2048 (constantI S_ 32 0#32)
def modThree (a : IVec S2048x2048 32) : IVec S2048x2048 32 :=
  select (andi (cmpi .ne (cmpi .slt (remOf a) zeros) (broadcastInDim S2048x2048 ![] bcast_S_S2048x2048 (cmpi .slt three (constantI S_ 32 0#32))))
      (cmpi .ne (remOf a) zeros))
    (addi (remOf a) (broadcastInDim S2048x2048 ![] bcast_S_S2048x2048 three)) (remOf a)
def mask : IVec S2048x2048 1 :=
  ori (ori (cmpi .eq (broadcastInDim S2048x2048 ![0, 1] bcast_S2048x1_S2048x2048_0_1 blockRow) (broadcastInDim S2048x2048 ![0, 1] bcast_S1x2048_S2048x2048_0_1 blockCol))
      (broadcastInDim S2048x2048 ![0, 1] bcast_S1x2048_S2048x2048_0_1 (cmpi .eq blockCol (broadcastInDim S1x2048 ![] bcast_S_S1x2048 (constantI S_ 32 0#32)))))
    (cmpi .eq (modThree (addi (broadcastInDim S2048x2048 ![0, 1] bcast_S2048x1_S2048x2048_0_1 blockRow) (broadcastInDim S2048x2048 ![0, 1] bcast_S1x2048_S2048x2048_0_1 blockCol))) zeros)
/-- Whether a row attends to anything. -/
def anyRow : IVec S2048 1 := Host.reduce IntOp.ori mask (constantI S_ 1 0#1) reducesTo_S2048x2048_S2048_d1 h_S_
def anyCol : IVec S1x1x2048x1 1 := broadcastInDim S1x1x2048x1 ![2] bcast_S2048_S1x1x2048x1_2 anyRow

variable {F : FTy → Type} [FloatOps F]

def queries (x : FVec F S1x2048x1024 .f32) (wq : FVec F S1024x4096 .f32) : FVec F S1x2048x32x128 .f32 :=
  shapeCast _ (Host.dotGeneral dot_S1x2048x1024_S1024x4096_S1x2048x4096_2_0_01_1_n_n none x wq) shapeCasts_S1x2048x4096_S1x2048x32x128
def scores (q k : FVec F S1x2048x32x128 .f32) : FVec F S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 mask))
    (mulf (Host.dotGeneral dot_S1x2048x32x128_S1x2048x32x128_S1x32x2048x2048_3_3_1_1_02_02 none q k) (broadcastInDim S1x32x2048x2048 ![] bcast_S_S1x32x2048x2048 (constant S_ .f32 0x3DB504F3#32)))
    (broadcastInDim S1x32x2048x2048 ![] bcast_S_S1x32x2048x2048 (id (constant S_ .f32 0xCE6E6B28#32)))
def expos (s : FVec F S1x32x2048x2048 .f32) : FVec F S1x32x2048x2048 .f32 :=
  Host.exp (subf s (broadcastInDim S1x32x2048x2048 ![0, 1, 2, 3] bcast_S1x32x2048x1_S1x32x2048x2048_0_1_2_3 (broadcastInDim S1x32x2048x1 ![0, 1, 2] bcast_S1x32x2048_S1x32x2048x1_0_1_2
    (Host.reduce FloatOps.maximumf s (constant S_ .f32 0xFF800000#32) reducesTo_S1x32x2048x2048_S1x32x2048_d3 h_S_))))
/-- A row's sum. -/
def rowSums (e : FVec F S1x32x2048x2048 .f32) : FVec F S1x32x2048 .f32 :=
  Host.reduceAdd e (constant S_ .f32 0x00000000#32) reducesTo_S1x32x2048x2048_S1x32x2048_d3 h_S_
/-- A row's sum, or one where the row attends to nothing. -/
def sums (e : FVec F S1x32x2048x2048 .f32) : FVec F S1x32x2048x1 .f32 :=
  select (broadcastInDim S1x32x2048x1 ![0, 1, 2, 3] bcast_S1x1x2048x1_S1x32x2048x1_0_1_2_3 anyCol)
    (broadcastInDim S1x32x2048x1 ![0, 1, 2] bcast_S1x32x2048_S1x32x2048x1_0_1_2 (rowSums e))
    (broadcastInDim S1x32x2048x1 ![] bcast_S_S1x32x2048x1 (id (constant S_ .f32 0x3F800000#32)))
def ratio (e : FVec F S1x32x2048x2048 .f32) (z : FVec F S1x32x2048x1 .f32) : FVec F S1x32x2048x2048 .f32 :=
  select (broadcastInDim S1x32x2048x2048 ![0, 1, 2, 3] bcast_S1x1x2048x1_S1x32x2048x2048_0_1_2_3 anyCol)
    (Host.divf e (broadcastInDim S1x32x2048x2048 ![0, 1, 2, 3] bcast_S1x32x2048x1_S1x32x2048x2048_0_1_2_3 z))
    (broadcastInDim S1x32x2048x2048 ![] bcast_S_S1x32x2048x2048 (id (constant S_ .f32 0x00000000#32)))
def probs (e : FVec F S1x32x2048x2048 .f32) : FVec F S1x32x2048x2048 .f32 := ratio e (sums e)
def outcome (v : FVec F S1x2048x32x128 .f32) (p : FVec F S1x32x2048x2048 .f32) (wo : FVec F S4096x1024 .f32) : FVec F S1x2048x1024 .f32 :=
  Host.dotGeneral dot_S1x2048x4096_S4096x1024_S1x2048x1024_2_0_01_1_n_n none
    (shapeCast _ (transpose S1x2048x32x128 [0, 3, 1, 2] (Host.dotGeneral dot_S1x2048x32x128_S1x32x2048x2048_S1x32x128x2048_1_3_3_2_02_01 none v p) transposes_S1x32x128x2048_S1x2048x32x128_0_3_1_2)
      shapeCasts_S1x2048x32x128_S1x2048x4096) wo
/-- The reference as one function of its arguments. -/
def whole (x : FVec F S1x2048x1024 .f32) (wq : FVec F S1024x4096 .f32) (k v : FVec F S1x2048x32x128 .f32) (wo : FVec F S4096x1024 .f32) : FVec F S1x2048x1024 .f32 :=
  outcome v (probs (expos (scores (queries x wq) k))) wo

/-! ## The mask -/

theorem blockNo_apply (n : Fin 2048) : blockNo (ix1 n) = BitVec.ofNat 32 (n.val / 64) := by
  pointwise [blockNo, id_eq]
  revert n
  decide +kernel

/-- The test on block numbers, on their words. -/
theorem attends_words : ∀ m n : Fin 32,
    IntOp.ori (IntOp.ori (IntOp.cmpi .eq (BitVec.ofNat 32 m.val) (BitVec.ofNat 32 n.val)) (IntOp.cmpi .eq (BitVec.ofNat 32 n.val) 0#32))
      (IntOp.cmpi .eq
        (Scalar.select
          (IntOp.andi
            (IntOp.cmpi .ne (IntOp.cmpi .slt (IntOp.remsi .host (IntOp.addi (BitVec.ofNat 32 m.val) (BitVec.ofNat 32 n.val)) 3#32) 0#32) (IntOp.cmpi .slt 3#32 0#32))
            (IntOp.cmpi .ne (IntOp.remsi .host (IntOp.addi (BitVec.ofNat 32 m.val) (BitVec.ofNat 32 n.val)) 3#32) 0#32))
          (IntOp.addi (IntOp.remsi .host (IntOp.addi (BitVec.ofNat 32 m.val) (BitVec.ofNat 32 n.val)) 3#32) 3#32)
          (IntOp.remsi .host (IntOp.addi (BitVec.ofNat 32 m.val) (BitVec.ofNat 32 n.val)) 3#32)) 0#32)
      = BitVec.ofBool (decide (m.val = n.val ∨ n.val = 0 ∨ (m.val + n.val) % 3 = 0)) := by
  decide +kernel

theorem three_eq : three = fun _ => 3#32 := by
  funext i
  pointwise [three, id_eq]
  decide

theorem mask_apply (i j : Fin 2048) : mask (ix2 i j) = attends i.val j.val := by
  pointwise [mask, modThree, remOf, zeros, three_eq, blockRow, blockCol]
  rw [blockNo_apply, blockNo_apply]
  exact attends_words ⟨i.val / 64, by omega⟩ ⟨j.val / 64, by omega⟩

/-- Every row attends to the first column. -/
theorem anyRow_apply (i : Fin 2048) : anyRow (ix1 i) = 1#1 := by
  pointwise [anyRow]
  refine (Routing.fold_ori _ _).mpr ⟨0, Finset.mem_univ _, ?_⟩
  rw [mask_apply]
  simp [attends]

/-! ## The values -/

theorem queries_apply (x : FVec Ideal S1x2048x1024 .f32) (wq : FVec Ideal S1024x4096 .f32) (i : Fin 2048) (h : Fin 32) (d : Fin 128) :
    queries x wq (ix4 0 i h d) = query (fun e => x (ix3 0 i e)) (fun e d => wq (ix2 e ⟨h.val * 128 + d.val, by omega⟩)) d := by
  pointwise [queries, query]

theorem scores_apply (q k : FVec Ideal S1x2048x32x128 .f32) (h : Fin 32) (i j : Fin 2048) :
    scores q k (ix4 0 h i j) = score i.val (fun d => q (ix4 0 i h d)) (fun j d => k (ix4 0 j h d)) j := by
  have a := mask_apply i j
  pointwise [scores, score, id_eq]
  rw [a]

theorem expos_apply (s : FVec Ideal S1x32x2048x2048 .f32) (h : Fin 32) (i j : Fin 2048) :
    expos s (ix4 0 h i j) = expo (fun j => s (ix4 0 h i j)) j := by
  pointwise [expos, expo]

theorem rowSums_apply (e : FVec Ideal S1x32x2048x2048 .f32) (h : Fin 32) (i : Fin 2048) :
    rowSums e (ix3 0 h i) = ∑ j' : Fin 2048, e (ix4 0 h i j') := by
  pointwise [rowSums]

theorem sums_apply (e : FVec Ideal S1x32x2048x2048 .f32) (h : Fin 32) (i : Fin 2048) :
    sums e (ix4 0 h i 0) = ∑ j' : Fin 2048, e (ix4 0 h i j') := by
  have a := anyRow_apply i
  have b := rowSums_apply e h i
  pointwise [sums, anyCol, id_eq]
  rw [a, b]
  exact ValueIdx.select_one _ _

theorem ratio_apply (e : FVec Ideal S1x32x2048x2048 .f32) (z : FVec Ideal S1x32x2048x1 .f32) (h : Fin 32) (i j : Fin 2048) :
    ratio e z (ix4 0 h i j) = Ideal.div (e (ix4 0 h i j)) (z (ix4 0 h i 0)) := by
  have a := anyRow_apply i
  pointwise [ratio, anyCol, id_eq]
  rw [a]
  exact ValueIdx.select_one _ _

theorem probs_apply (e : FVec Ideal S1x32x2048x2048 .f32) (h : Fin 32) (i j : Fin 2048) :
    probs e (ix4 0 h i j) = Ideal.div (e (ix4 0 h i j)) (∑ j' : Fin 2048, e (ix4 0 h i j')) := by
  rw [← sums_apply e h i]
  exact ratio_apply e (sums e) h i j

theorem outcome_apply (v : FVec Ideal S1x2048x32x128 .f32) (p : FVec Ideal S1x32x2048x2048 .f32) (wo : FVec Ideal S4096x1024 .f32) (i : Fin 2048) (n : Fin 1024) :
    outcome v p wo (ix3 0 i n) = ∑ e : Fin 4096, (∑ j : Fin 2048, p (ix4 0 ⟨e.val / 128, by omega⟩ i j) * v (ix4 0 j ⟨e.val / 128, by omega⟩ ⟨e.val % 128, by omega⟩)) * wo (ix2 e n) := by
  pointwise [outcome]
  exact Finset.sum_congr rfl fun e _ => congrArg (· * _) (Finset.sum_congr rfl fun j _ => mul_comm _ _)

/-- Row `i` of the reference's context for head `h`. -/
def headContext (x : FVec Ideal S1x2048x1024 .f32) (wq : FVec Ideal S1024x4096 .f32) (k v : FVec Ideal S1x2048x32x128 .f32)
    (i : Fin 2048) (h : Fin 32) (d : Fin 128) : R :=
  context i.val (query (fun e => x (ix3 0 i e)) (fun e d => wq (ix2 e ⟨h.val * 128 + d.val, by omega⟩)))
    (fun j d => k (ix4 0 j h d)) (fun j d => v (ix4 0 j h d)) d

theorem whole_apply (x : FVec Ideal S1x2048x1024 .f32) (wq : FVec Ideal S1024x4096 .f32) (k v : FVec Ideal S1x2048x32x128 .f32)
    (wo : FVec Ideal S4096x1024 .f32) (i : Fin 2048) (n : Fin 1024) :
    whole x wq k v wo (ix3 0 i n)
      = ∑ e : Fin 4096, headContext x wq k v i ⟨e.val / 128, by omega⟩ ⟨e.val % 128, by omega⟩ * wo (ix2 e n) := by
  unfold whole
  rw [outcome_apply]
  simp only [probs_apply, expos_apply, scores_apply, queries_apply]
  rfl

end Cert.ReferenceIdealProof
-- ==== Proof.Value.Equation.lean ====
/- The kernel's result is the reference's: the four devices' contributions add to the whole contraction. -/
module

public import proofs.«01_k».proof.Proof.Value.Host
public import proofs.«01_k».proof.Proof.Value.Device
public import proofs.«01_k».proof.Proof.Value.Reference

@[expose] public section

set_option maxRecDepth 16384

noncomputable section

namespace Cert.AttnValue

open Idealize.ShloMosaic
open Idealize.ShloMosaic.TcCoe
open Cert.KernelIdeal Cert.KernelIdeal.Gen Cert.KernelIdealProof

/-! ## The sum around the ring -/

/-- The sum round the ring is the sum over the devices, wherever it starts. -/
theorem acc_eq (p : Dev nD → Mat Ideal) (i : S2048x1024.Idx) (d : Dev nD) : acc p 3 d i = ∑ c : Fin 4, p c i := by
  show p d i + (p (sh d 3) i + (p (sh (sh d 3) 3) i + p (sh (sh (sh d 3) 3) 3) i)) = _
  rw [Fin.sum_univ_four]
  have h : ∀ e : Fin 4, p (sh e 3) i = p (e + 3) i := fun e => rfl
  change Fin 4 at d
  fin_cases d
  · show p 0 i + (p 3 i + (p 2 i + p 1 i)) = (p 0 i + p 1 i + p 2 i + p 3 i : EReal)
    ac_rfl
  · show p 1 i + (p 0 i + (p 3 i + p 2 i)) = (p 0 i + p 1 i + p 2 i + p 3 i : EReal)
    ac_rfl
  · show p 2 i + (p 1 i + (p 0 i + p 3 i)) = (p 0 i + p 1 i + p 2 i + p 3 i : EReal)
    ac_rfl
  · show p 3 i + (p 2 i + (p 1 i + p 0 i)) = (p 0 i + p 1 i + p 2 i + p 3 i : EReal)
    ac_rfl

/-- A sum over 4096 is the sum over four blocks of 1024. -/
theorem sum_blocks (f : Fin 4096 → R) :
    (∑ c : Fin 4, ∑ e : Fin 1024, f ⟨1024 * c.val + e.val, by omega⟩ : EReal) = (∑ e : Fin 4096, f e : EReal) := by
  rw [← Fintype.sum_prod_type' (f := fun (c : Fin 4) (e : Fin 1024) => (f ⟨1024 * c.val + e.val, by omega⟩ : EReal))]
  refine Fintype.sum_equiv (finProdFinEquiv (m := 4) (n := 1024)) _ _ fun x => ?_
  congr 1
  apply Fin.ext
  show 1024 * x.1.val + x.2.val = x.2.val + 1024 * x.1.val
  omega

/-- Every device's array is its block of eight of the whole array's thirty-two heads. -/
def Blocks (b : Dev nD → FVec Ideal S1x2048x8x128 .f32) (a : FVec Ideal Cert.ReferenceIdeal.S1x2048x32x128 .f32) : Prop :=
  ∀ c, b c = Layout.block ⟨4, ![1, 2048, 8, 128]⟩ ⟨4, ![1, 2048, 32, 128]⟩ 2 4 c a

/-- Device `c`'s head `h` is the whole array's head `8 * c + h`. -/
theorem Blocks.apply {b : Dev nD → FVec Ideal S1x2048x8x128 .f32} {a : FVec Ideal Cert.ReferenceIdeal.S1x2048x32x128 .f32}
    (hb : Blocks b a) (c : Fin 4) (j : Fin 2048) (h : Fin 8) (d : Fin 128) :
    b c (ix4 0 j h d) = a (ix4 0 j ⟨8 * c.val + h.val, by omega⟩ d) := by
  rw [hb c]
  show a _ = a _
  congr 1
  funext b
  fin_cases b <;> apply Fin.ext
  · rfl
  · rfl
  · show c.val * 8 + h.val = 8 * c.val + h.val; omega
  · rfl

section
variable (m : (ℓ : Loc nD τ sig) → Buf (Elt Ideal) ℓ)
variable (x : FVec Ideal S1x2048x1024 .f32) (wq : FVec Ideal S1024x4096 .f32) (wo : FVec Ideal S4096x1024 .f32)
variable (k v : FVec Ideal Cert.ReferenceIdeal.S1x2048x32x128 .f32)
variable (hx : ∀ c : Dev nD, m ((c.tc : Thread nD τ).loc main_arg0) = x) (hq : ∀ c : Dev nD, m ((c.tc : Thread nD τ).loc main_arg1) = wq)
variable (hk : Blocks (fun c => m ((c.tc : Thread nD τ).loc main_arg2)) k) (hv : Blocks (fun c => m ((c.tc : Thread nD τ).loc main_arg3)) v)
variable (ho : ∀ c : Dev nD, m ((c.tc : Thread nD τ).loc main_arg4) = wo)

include hx hq hk hv in
/-- A device's context for its head `h` is the reference's for head `8 * c + h`. -/
theorem rowContext_eq (c : Fin 4) (i : Fin 2048) (h : Fin 8) (d : Fin 128) :
    rowContext (V1 m c main_v5) (V1 m c main_v10) (V1 m c main_v17) (V1 m c main_v19) i h d
      = Cert.ReferenceIdealProof.headContext x wq k v i ⟨8 * c.val + h.val, by omega⟩ d := by
  unfold rowContext Cert.ReferenceIdealProof.headContext
  congr 1
  · funext d
    congr 1
    · funext e
      rw [V1_v5_apply, hx]
    · funext e d
      rw [V1_v10_apply, hq]
      congr 2
      apply Fin.ext
      show 1024 * c.val + (128 * h.val + d.val) = (8 * c.val + h.val) * 128 + d.val
      omega
  · funext j d
    rw [V1_v17_apply]
    exact hk.apply c j h d
  · funext j d
    rw [V1_v19_apply]
    exact hv.apply c j h d

include hx hq hk hv ho in
/-- A device's contribution contracts its own 1024 rows of the output projection. -/
theorem part_apply (c : Fin 4) (i : Fin 2048) (n : Fin 1024) :
    part m c (ix2 i n) = ∑ e : Fin 1024, (fun e : Fin 4096 =>
      (Cert.ReferenceIdealProof.headContext x wq k v i ⟨e.val / 128, by omega⟩ ⟨e.val % 128, by omega⟩ * wo (ix2 e n) : EReal)) ⟨1024 * c.val + e.val, by omega⟩ := by
  unfold part
  rw [partialOf_apply]
  refine Finset.sum_congr rfl fun e _ => ?_
  rw [rowContext_eq m x wq k v hx hq hk hv, V1_v15_apply, ho]
  congr 2
  · apply Fin.ext
    show 8 * c.val + e.val / 128 = (1024 * c.val + e.val) / 128
    omega
  · apply Fin.ext
    show e.val % 128 = (1024 * c.val + e.val) % 128
    omega

include hx hq hk hv ho in
/-- What every device ends with is the reference's result. -/
theorem result_eq (c : Dev nD) :
    (V4 m (outs m) c main_v22 : FVec Ideal S1x2048x1024 .f32) = Cert.ReferenceIdealProof.whole x wq k v wo := by
  funext i
  obtain ⟨i0, i, n, rfl⟩ : ∃ (a : Fin 1) (b : Fin 2048) (e : Fin 1024), i = ix3 a b e := ⟨i 0, i 1, i 2, eq_ix3 i⟩
  obtain rfl : i0 = 0 := Subsingleton.elim _ _
  rw [V4_v22_apply, Cert.ReferenceIdealProof.whole_apply, ← sum_blocks, V3_v21]
  refine (acc_eq (part m) _ _).trans (Finset.sum_congr rfl fun c _ => ?_)
  exact part_apply m x wq wo k v hx hq hk hv ho c i n

end

end Cert.AttnValue
-- ==== Proof.Value.ReferenceRun.lean ====
/- The reference's run ends with the value of its steps. -/
module

public import proofs.«01_k».proof.Proof.Gen.ReferenceIdeal.Run
public import proofs.«01_k».proof.Proof.Value.Reference

@[expose] public section

set_option maxRecDepth 16384

noncomputable section

namespace Cert.ReferenceIdealProof

open Cert.ReferenceIdeal Cert.ReferenceIdeal.Gen
open Idealize.ShloMosaic
open Idealize.ShloMosaic.TcCoe

variable {F : FTy → Type} [FloatOps F]

theorem res_eq (m : (ℓ : Loc nD τ sig) → Buf (Elt F) ℓ) (c : Dev nD) :
    Cert.ReferenceIdeal.Value.res_main_v44 m c = whole (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v44
  rfl

end Cert.ReferenceIdealProof
-- ==== Proof.lean ====
/- The proof of the claims: the runs of the kernel, as printed and over the reals, and of the
reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import proofs.«01_k».proof.Proof.Value.ReferenceRun
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).1, h.2⟩) (Cert.KernelProof.run_main m g)

theorem frame_kernel_ideal : Cert.quiescent_KernelIdeal := fun m g _ =>
  (θ_run Cert.KernelIdeal.defs _ _).mono (fun _ h => ⟨fun c => (h.1 c).1, h.2⟩) (Cert.KernelIdealProof.run_main m g)

/-- The reference has no semaphore. -/
theorem frame_reference : Cert.quiescent_ReferenceIdeal := fun m g _ =>
  (θ_run Cert.ReferenceIdeal.defs _ _).mono (fun _ h => ⟨fun c => (h c).2, funext fun s => by
    obtain ⟨_, sm⟩ := s
    cases sm with
    | reg q => exact q.elim0
    | dma q => exact q.elim0⟩) (Cert.ReferenceIdeal.Value.run m g)

theorem value : Cert.algebraic_KernelIdeal_ReferenceIdeal := fun m g m' g' _ hm => by
  refine ⟨Cert.ReferenceIdeal.Value.res_main_v44 m' 0, ?_, ?_⟩
  · refine (θ_run Cert.KernelIdeal.defs _ _).mono (fun _ h c => ⟨?_, (h.1 c).1⟩) (Cert.KernelIdealProof.run_main m g)
    exact (h.1 c).2.trans ((Cert.AttnValue.result_eq m _ _ _ _ _ (fun c => (hm c).1) (fun c => (hm c).2.1) (fun c => (hm c).2.2.1)
      (fun c => (hm c).2.2.2.1) (fun c => (hm c).2.2.2.2) c).trans (Cert.ReferenceIdealProof.res_eq m' 0).symm)
  · exact (θ_run Cert.ReferenceIdeal.defs _ _).mono (fun _ h => h 0) (Cert.ReferenceIdeal.Value.run m' g')

theorem claim : Cert.Claim :=
  ⟨Cert.Kernel.Gen.facts, Cert.KernelIdeal.Gen.facts, Cert.ReferenceIdeal.Gen.facts, frame_kernel, frame_kernel_ideal, frame_reference, trivial, value⟩

end Cert.Proof

end
